-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S2x2048x2048 : Shape := ⟨3, ![2, 2048, 2048]⟩
abbrev S128x65536x16 : Shape := ⟨3, ![128, 65536, 16]⟩
abbrev S4096x2048 : Shape := ⟨2, ![4096, 2048]⟩
abbrev S128x16x65536 : Shape := ⟨3, ![128, 16, 65536]⟩
abbrev S2048x65536 : Shape := ⟨2, ![2048, 65536]⟩
abbrev S1048576x128 : Shape := ⟨2, ![1048576, 128]⟩
abbrev S2048x512 : Shape := ⟨2, ![2048, 512]⟩
abbrev S8192x128 : Shape := ⟨2, ![8192, 128]⟩
abbrev S512x2048 : Shape := ⟨2, ![512, 2048]⟩
abbrev S64x8x16x128 : Shape := ⟨4, ![64, 8, 16, 128]⟩
abbrev S64x16x8x128 : Shape := ⟨4, ![64, 16, 8, 128]⟩
abbrev S8388608x16 : Shape := ⟨2, ![8388608, 16]⟩
abbrev S2048x128 : Shape := ⟨2, ![2048, 128]⟩
abbrev S_ : Shape := ⟨0, ![]⟩
abbrev S4096x128 : Shape := ⟨2, ![4096, 128]⟩
abbrev S512x128 : Shape := ⟨2, ![512, 128]⟩
abbrev S524288x16 : Shape := ⟨2, ![524288, 16]⟩
abbrev S16x128 : Shape := ⟨2, ![16, 128]⟩
abbrev S2048x16 : Shape := ⟨2, ![2048, 16]⟩
abbrev S128x16 : Shape := ⟨2, ![128, 16]⟩
abbrev S1x128 : Shape := ⟨2, ![1, 128]⟩
abbrev S128 : Shape := ⟨1, ![128]⟩
abbrev S1x16 : Shape := ⟨2, ![1, 16]⟩
abbrev S16 : Shape := ⟨1, ![16]⟩
abbrev S1 : Shape := ⟨1, ![1]⟩

abbrev nBuf : Table → Nat
  | .hbm => 37
  | .local .tc .vmem => 12
  | .local .scVector .vmem => 3
  | _ => 0

abbrev bufTy : (tb : Table) → Fin (nBuf tb) → BufTy
  | .hbm, ⟨0, _⟩ => ⟨S2x2048x2048, .f32⟩
  | .hbm, ⟨1, _⟩ => ⟨S128x65536x16, .f32⟩
  | .hbm, ⟨2, _⟩ => ⟨S4096x2048, .f32⟩
  | .hbm, ⟨3, _⟩ => ⟨S128x16x65536, .f32⟩
  | .hbm, ⟨4, _⟩ => ⟨S2048x65536, .f32⟩
  | .hbm, ⟨5, _⟩ => ⟨S1048576x128, .f32⟩
  | .hbm, ⟨6, _⟩ => ⟨S8388608x16, .f32⟩
  | .hbm, ⟨7, _⟩ => ⟨S2048x128, .i32⟩
  | .hbm, ⟨8, _⟩ => ⟨S2048x128, .i32⟩
  | .hbm, ⟨9, _⟩ => ⟨S_, .i32⟩
  | .hbm, ⟨10, _⟩ => ⟨S2048x128, .i32⟩
  | .hbm, ⟨11, _⟩ => ⟨S2048x128, .i32⟩
  | .hbm, ⟨12, _⟩ => ⟨S2048x128, .i1⟩
  | .hbm, ⟨13, _⟩ => ⟨S_, .i32⟩
  | .hbm, ⟨14, _⟩ => ⟨S2048x128, .i32⟩
  | .hbm, ⟨15, _⟩ => ⟨S2048x128, .i32⟩
  | .hbm, ⟨16, _⟩ => ⟨S_, .i32⟩
  | .hbm, ⟨17, _⟩ => ⟨S2048x128, .i32⟩
  | .hbm, ⟨18, _⟩ => ⟨S2048x128, .i32⟩
  | .hbm, ⟨19, _⟩ => ⟨S_, .i32⟩
  | .hbm, ⟨20, _⟩ => ⟨S2048x128, .i32⟩
  | .hbm, ⟨21, _⟩ => ⟨S2048x128, .i32⟩
  | .hbm, ⟨22, _⟩ => ⟨S_, .i32⟩
  | .hbm, ⟨23, _⟩ => ⟨S_, .i32⟩
  | .hbm, ⟨24, _⟩ => ⟨S2048x128, .i32⟩
  | .hbm, ⟨25, _⟩ => ⟨S2048x128, .i32⟩
  | .hbm, ⟨26, _⟩ => ⟨S2048x128, .f32⟩
  | .hbm, ⟨27, _⟩ => ⟨S_, .i32⟩
  | .hbm, ⟨28, _⟩ => ⟨S_, .i32⟩
  | .hbm, ⟨29, _⟩ => ⟨S2048x128, .i32⟩
  | .hbm, ⟨30, _⟩ => ⟨S2048x128, .i32⟩
  | .hbm, ⟨31, _⟩ => ⟨S2048x128, .i32⟩
  | .hbm, ⟨32, _⟩ => ⟨S2048x128, .f32⟩
  | .hbm, ⟨33, _⟩ => ⟨S4096x128, .i32⟩
  | .hbm, ⟨34, _⟩ => ⟨S4096x128, .f32⟩
  | .hbm, ⟨35, _⟩ => ⟨S524288x16, .f32⟩
  | .hbm, ⟨36, _⟩ => ⟨S2x2048x2048, .f32⟩
  | .local .tc .vmem, ⟨0, _⟩ => ⟨S2048x512, .f32⟩
  | .local .tc .vmem, ⟨1, _⟩ => ⟨S2048x512, .f32⟩
  | .local .tc .vmem, ⟨2, _⟩ => ⟨S8192x128, .f32⟩
  | .local .tc .vmem, ⟨3, _⟩ => ⟨S8192x128, .f32⟩
  | .local .tc .vmem, ⟨4, _⟩ => ⟨S512x2048, .f32⟩
  | .local .tc .vmem, ⟨5, _⟩ => ⟨S512x2048, .f32⟩
  | .local .tc .vmem, ⟨6, _⟩ => ⟨S2048x128, .f32⟩
  | .local .tc .vmem, ⟨7, _⟩ => ⟨S2048x128, .f32⟩
  | .local .tc .vmem, ⟨8, _⟩ => ⟨S512x128, .i32⟩
  | .local .tc .vmem, ⟨9, _⟩ => ⟨S512x128, .i32⟩
  | .local .tc .vmem, ⟨10, _⟩ => ⟨S512x128, .f32⟩
  | .local .tc .vmem, ⟨11, _⟩ => ⟨S512x128, .f32⟩
  | .local .scVector .vmem, ⟨0, _⟩ => ⟨S16x128, .i32⟩
  | .local .scVector .vmem, ⟨1, _⟩ => ⟨S16x128, .f32⟩
  | .local .scVector .vmem, ⟨2, _⟩ => ⟨S2048x16, .f32⟩
  | _, _ => ⟨S2x2048x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | _ => false

abbrev sig : RefSig :=
  ofTables nBuf rfl bufTy 4 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_v13 : Ref sig .tc := ⟨.hbm, 18, rfl⟩
abbrev main_c_2 : Ref sig .tc := ⟨.hbm, 19, rfl⟩
abbrev main_v14 : Ref sig .tc := ⟨.hbm, 20, rfl⟩
abbrev main_v15 : Ref sig .tc := ⟨.hbm, 21, rfl⟩
abbrev main_c_3 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_c_5 : Ref sig .tc := ⟨.hbm, 28, rfl⟩
abbrev main_call1_v0 : Ref sig .tc := ⟨.hbm, 29, rfl⟩
abbrev main_call1_v1 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev main_v21 : Ref sig .tc := ⟨.hbm, 35, rfl⟩
abbrev main_v22 : Ref sig .tc := ⟨.hbm, 36, rfl⟩
abbrev main_v4_scv : Ref sig .scVector := ⟨.hbm, 6, rfl⟩
abbrev main_v20_0_scv : Ref sig .scVector := ⟨.hbm, 33, rfl⟩
abbrev main_v20_1_scv : Ref sig .scVector := ⟨.hbm, 34, rfl⟩
abbrev main_v21_scv : Ref sig .scVector := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc1_sem4_0 : DmaSem sig := 10
abbrev cc1_sem4_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x128 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![2, 16], ![false, false]⟩

def k2_off1 (i : grid2.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  let c0_i32_1556_r0 : BitVec 32 := 0#32
  ![v3.toNat, 0]
@[reducible] def k2_t1_loop : Scf.Loop 32 :=
  let c0_i32_165 : BitVec 32 := 0#32
  let c128_i32_166 : BitVec 32 := 128#32
  let v132 : BitVec 32 := Scalar.addi c0_i32_165 c128_i32_166
  let c1_i32_167 : BitVec 32 := 1#32
  ⟨c0_i32_165, v132, c1_i32_167⟩
def k2_off2 (k2_t1 : Fin k2_t1_loop.trips) : Fin 2 → Nat :=
  let c0_i32_165 : BitVec 32 := 0#32
  let c1_i32_167 : BitVec 32 := 1#32
  let arg10 : BitVec 32 := Scf.iv c0_i32_165 c1_i32_167 k2_t1
  let c0_i32_1557 : BitVec 32 := 0#32
  let v1060 : BitVec 1 := Scalar.cmpi .sgt arg10 c0_i32_1557
  let v1061 : BitVec 32 := Scalar.extui v1060
  let c0_i32_1558 : BitVec 32 := 0#32
  let v1062 : BitVec 1 := Scalar.cmpi .slt arg10 c0_i32_1558
  let v1063 : BitVec 32 := Scalar.extui v1062
  let v1064 : BitVec 32 := Scalar.subi v1061 v1063
  let c8_i32_1556 : BitVec 32 := 8#32
  let c0_i32_1559 : BitVec 32 := 0#32
  let v1065 : BitVec 1 := Scalar.cmpi .sgt c8_i32_1556 c0_i32_1559
  let v1066 : BitVec 32 := Scalar.extui v1065
  let c0_i32_1560 : BitVec 32 := 0#32
  let v1067 : BitVec 1 := Scalar.cmpi .slt c8_i32_1556 c0_i32_1560
  let v1068 : BitVec 32 := Scalar.extui v1067
  let v1069 : BitVec 32 := Scalar.subi v1066 v1068
  let v1070 : BitVec 1 := Scalar.cmpi .ne v1064 v1069
  let v1071 : BitVec 32 := Scalar.remsi arg10 c8_i32_1556
  let c0_i32_1561 : BitVec 32 := 0#32
  let v1072 : BitVec 1 := Scalar.cmpi .ne v1071 c0_i32_1561
  let v1073 : BitVec 1 := Scalar.andi v1070 v1072
  let v1059 : BitVec 32 := Scalar.divsi arg10 c8_i32_1556
  let c1_i32_1562 : BitVec 32 := 1#32
  let v1074 : BitVec 32 := Scalar.subi v1059 c1_i32_1562
  let v1075 : BitVec 32 := Scalar.select v1073 v1074 v1059
  let v1087 : Index := Scalar.indexCast v1075
  let c8_i32_1563 : BitVec 32 := 8#32
  let c0_i32_1564 : BitVec 32 := 0#32
  let v1076 : BitVec 1 := Scalar.cmpi .eq c8_i32_1563 c0_i32_1564
  let c1_i32_1565 : BitVec 32 := 1#32
  let v1077 : BitVec 32 := Scalar.select v1076 c1_i32_1565 c8_i32_1563
  let v1078 : BitVec 32 := Scalar.remsi arg10 v1077
  let c0_i32_1567 : BitVec 32 := 0#32
  let v1080 : BitVec 1 := Scalar.cmpi .slt v1078 c0_i32_1567
  let c0_i32_1568 : BitVec 32 := 0#32
  let v1081 : BitVec 1 := Scalar.cmpi .slt v1077 c0_i32_1568
  let v1082 : BitVec 1 := Scalar.xori v1080 v1081
  let c0_i32_1566 : BitVec 32 := 0#32
  let v1079 : BitVec 1 := Scalar.cmpi .ne v1078 c0_i32_1566
  let v1083 : BitVec 1 := Scalar.andi v1082 v1079
  let v1084 : BitVec 32 := Scalar.addi v1078 v1077
  let v1085 : BitVec 32 := Scalar.select v1083 v1084 v1078
  let c16_i32_1569 : BitVec 32 := 16#32
  let v1086 : BitVec 32 := Scalar.muli v1085 c16_i32_1569
  let v1088 : Index := Scalar.indexCast v1086
  ![v1087.toNat, v1088.toNat]
def k2_off3 (k2_t1 : Fin k2_t1_loop.trips) (c0_i32_1571 : BitVec 32) : Fin 2 → Nat :=
  let c0_i32_165 : BitVec 32 := 0#32
  let c1_i32_167 : BitVec 32 := 1#32
  let arg10 : BitVec 32 := Scf.iv c0_i32_165 c1_i32_167 k2_t1
  let c16_i32_1570 : BitVec 32 := 16#32
  let v1091 : BitVec 32 := Scalar.muli arg10 c16_i32_1570
  let v1092 : BitVec 32 := Scalar.addi v1091 c0_i32_1571
  let v1096 : Index := Scalar.indexCast v1092
  let c0 : Index := 0#32
  ![v1096.toNat, 0]
def k2_off4 (i : grid2.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  let c128_i32_169 : BitVec 32 := 128#32
  let v134 : BitVec 32 := Scalar.muli v3 c128_i32_169
  let c0_i32_1556_r2 : BitVec 32 := 0#32
  ![v134.toNat, 0]
@[reducible] def k2_t2_loop : Scf.Loop 32 :=
  let c0_i32_363 : BitVec 32 := 0#32
  let c128_i32_364 : BitVec 32 := 128#32
  let v264 : BitVec 32 := Scalar.addi c0_i32_363 c128_i32_364
  let c1_i32_365 : BitVec 32 := 1#32
  ⟨c0_i32_363, v264, c1_i32_365⟩
def k2_off5 (k2_t2 : Fin k2_t2_loop.trips) : Fin 2 → Nat :=
  let c0_i32_363 : BitVec 32 := 0#32
  let c1_i32_365 : BitVec 32 := 1#32
  let arg10 : BitVec 32 := Scf.iv c0_i32_363 c1_i32_365 k2_t2
  let c0_i32_1557 : BitVec 32 := 0#32
  let v1060 : BitVec 1 := Scalar.cmpi .sgt arg10 c0_i32_1557
  let v1061 : BitVec 32 := Scalar.extui v1060
  let c0_i32_1558 : BitVec 32 := 0#32
  let v1062 : BitVec 1 := Scalar.cmpi .slt arg10 c0_i32_1558
  let v1063 : BitVec 32 := Scalar.extui v1062
  let v1064 : BitVec 32 := Scalar.subi v1061 v1063
  let c8_i32_1556 : BitVec 32 := 8#32
  let c0_i32_1559 : BitVec 32 := 0#32
  let v1065 : BitVec 1 := Scalar.cmpi .sgt c8_i32_1556 c0_i32_1559
  let v1066 : BitVec 32 := Scalar.extui v1065
  let c0_i32_1560 : BitVec 32 := 0#32
  let v1067 : BitVec 1 := Scalar.cmpi .slt c8_i32_1556 c0_i32_1560
  let v1068 : BitVec 32 := Scalar.extui v1067
  let v1069 : BitVec 32 := Scalar.subi v1066 v1068
  let v1070 : BitVec 1 := Scalar.cmpi .ne v1064 v1069
  let v1071 : BitVec 32 := Scalar.remsi arg10 c8_i32_1556
  let c0_i32_1561 : BitVec 32 := 0#32
  let v1072 : BitVec 1 := Scalar.cmpi .ne v1071 c0_i32_1561
  let v1073 : BitVec 1 := Scalar.andi v1070 v1072
  let v1059 : BitVec 32 := Scalar.divsi arg10 c8_i32_1556
  let c1_i32_1562 : BitVec 32 := 1#32
  let v1074 : BitVec 32 := Scalar.subi v1059 c1_i32_1562
  let v1075 : BitVec 32 := Scalar.select v1073 v1074 v1059
  let v1087 : Index := Scalar.indexCast v1075
  let c8_i32_1563 : BitVec 32 := 8#32
  let c0_i32_1564 : BitVec 32 := 0#32
  let v1076 : BitVec 1 := Scalar.cmpi .eq c8_i32_1563 c0_i32_1564
  let c1_i32_1565 : BitVec 32 := 1#32
  let v1077 : BitVec 32 := Scalar.select v1076 c1_i32_1565 c8_i32_1563
  let v1078 : BitVec 32 := Scalar.remsi arg10 v1077
  let c0_i32_1567 : BitVec 32 := 0#32
  let v1080 : BitVec 1 := Scalar.cmpi .slt v1078 c0_i32_1567
  let c0_i32_1568 : BitVec 32 := 0#32
  let v1081 : BitVec 1 := Scalar.cmpi .slt v1077 c0_i32_1568
  let v1082 : BitVec 1 := Scalar.xori v1080 v1081
  let c0_i32_1566 : BitVec 32 := 0#32
  let v1079 : BitVec 1 := Scalar.cmpi .ne v1078 c0_i32_1566
  let v1083 : BitVec 1 := Scalar.andi v1082 v1079
  let v1084 : BitVec 32 := Scalar.addi v1078 v1077
  let v1085 : BitVec 32 := Scalar.select v1083 v1084 v1078
  let c16_i32_1569 : BitVec 32 := 16#32
  let v1086 : BitVec 32 := Scalar.muli v1085 c16_i32_1569
  let v1088 : Index := Scalar.indexCast v1086
  ![v1087.toNat, v1088.toNat]
def k2_off6 (k2_t2 : Fin k2_t2_loop.trips) (c0_i32_1571 : BitVec 32) : Fin 2 → Nat :=
  let c0_i32_363 : BitVec 32 := 0#32
  let c1_i32_365 : BitVec 32 := 1#32
  let arg10 : BitVec 32 := Scf.iv c0_i32_363 c1_i32_365 k2_t2
  let c16_i32_1570 : BitVec 32 := 16#32
  let v1091 : BitVec 32 := Scalar.muli arg10 c16_i32_1570
  let v1092 : BitVec 32 := Scalar.addi v1091 c0_i32_1571
  let v1096 : Index := Scalar.indexCast v1092
  let c0 : Index := 0#32
  ![v1096.toNat, 0]
@[reducible] def k2_t3_loop : Scf.Loop 32 :=
  let c0_i32_561 : BitVec 32 := 0#32
  let c128_i32_562 : BitVec 32 := 128#32
  let v396 : BitVec 32 := Scalar.addi c0_i32_561 c128_i32_562
  let c1_i32_563 : BitVec 32 := 1#32
  ⟨c0_i32_561, v396, c1_i32_563⟩
def k2_off7 (k2_t3 : Fin k2_t3_loop.trips) : Fin 2 → Nat :=
  let c0_i32_561 : BitVec 32 := 0#32
  let c1_i32_563 : BitVec 32 := 1#32
  let arg10 : BitVec 32 := Scf.iv c0_i32_561 c1_i32_563 k2_t3
  let c0_i32_1557 : BitVec 32 := 0#32
  let v1060 : BitVec 1 := Scalar.cmpi .sgt arg10 c0_i32_1557
  let v1061 : BitVec 32 := Scalar.extui v1060
  let c0_i32_1558 : BitVec 32 := 0#32
  let v1062 : BitVec 1 := Scalar.cmpi .slt arg10 c0_i32_1558
  let v1063 : BitVec 32 := Scalar.extui v1062
  let v1064 : BitVec 32 := Scalar.subi v1061 v1063
  let c8_i32_1556 : BitVec 32 := 8#32
  let c0_i32_1559 : BitVec 32 := 0#32
  let v1065 : BitVec 1 := Scalar.cmpi .sgt c8_i32_1556 c0_i32_1559
  let v1066 : BitVec 32 := Scalar.extui v1065
  let c0_i32_1560 : BitVec 32 := 0#32
  let v1067 : BitVec 1 := Scalar.cmpi .slt c8_i32_1556 c0_i32_1560
  let v1068 : BitVec 32 := Scalar.extui v1067
  let v1069 : BitVec 32 := Scalar.subi v1066 v1068
  let v1070 : BitVec 1 := Scalar.cmpi .ne v1064 v1069
  let v1071 : BitVec 32 := Scalar.remsi arg10 c8_i32_1556
  let c0_i32_1561 : BitVec 32 := 0#32
  let v1072 : BitVec 1 := Scalar.cmpi .ne v1071 c0_i32_1561
  let v1073 : BitVec 1 := Scalar.andi v1070 v1072
  let v1059 : BitVec 32 := Scalar.divsi arg10 c8_i32_1556
  let c1_i32_1562 : BitVec 32 := 1#32
  let v1074 : BitVec 32 := Scalar.subi v1059 c1_i32_1562
  let v1075 : BitVec 32 := Scalar.select v1073 v1074 v1059
  let v1087 : Index := Scalar.indexCast v1075
  let c8_i32_1563 : BitVec 32 := 8#32
  let c0_i32_1564 : BitVec 32 := 0#32
  let v1076 : BitVec 1 := Scalar.cmpi .eq c8_i32_1563 c0_i32_1564
  let c1_i32_1565 : BitVec 32 := 1#32
  let v1077 : BitVec 32 := Scalar.select v1076 c1_i32_1565 c8_i32_1563
  let v1078 : BitVec 32 := Scalar.remsi arg10 v1077
  let c0_i32_1567 : BitVec 32 := 0#32
  let v1080 : BitVec 1 := Scalar.cmpi .slt v1078 c0_i32_1567
  let c0_i32_1568 : BitVec 32 := 0#32
  let v1081 : BitVec 1 := Scalar.cmpi .slt v1077 c0_i32_1568
  let v1082 : BitVec 1 := Scalar.xori v1080 v1081
  let c0_i32_1566 : BitVec 32 := 0#32
  let v1079 : BitVec 1 := Scalar.cmpi .ne v1078 c0_i32_1566
  let v1083 : BitVec 1 := Scalar.andi v1082 v1079
  let v1084 : BitVec 32 := Scalar.addi v1078 v1077
  let v1085 : BitVec 32 := Scalar.select v1083 v1084 v1078
  let c16_i32_1569 : BitVec 32 := 16#32
  let v1086 : BitVec 32 := Scalar.muli v1085 c16_i32_1569
  let v1088 : Index := Scalar.indexCast v1086
  ![v1087.toNat, v1088.toNat]
def k2_off8 (k2_t3 : Fin k2_t3_loop.trips) (c0_i32_1571 : BitVec 32) : Fin 2 → Nat :=
  let c0_i32_561 : BitVec 32 := 0#32
  let c1_i32_563 : BitVec 32 := 1#32
  let arg10 : BitVec 32 := Scf.iv c0_i32_561 c1_i32_563 k2_t3
  let c16_i32_1570 : BitVec 32 := 16#32
  let v1091 : BitVec 32 := Scalar.muli arg10 c16_i32_1570
  let v1092 : BitVec 32 := Scalar.addi v1091 c0_i32_1571
  let v1096 : Index := Scalar.indexCast v1092
  let c0 : Index := 0#32
  ![v1096.toNat, 0]
@[reducible] def k2_t4_loop : Scf.Loop 32 :=
  let c0_i32_759 : BitVec 32 := 0#32
  let c128_i32_760 : BitVec 32 := 128#32
  let v528 : BitVec 32 := Scalar.addi c0_i32_759 c128_i32_760
  let c1_i32_761 : BitVec 32 := 1#32
  ⟨c0_i32_759, v528, c1_i32_761⟩
def k2_off9 (k2_t4 : Fin k2_t4_loop.trips) : Fin 2 → Nat :=
  let c0_i32_759 : BitVec 32 := 0#32
  let c1_i32_761 : BitVec 32 := 1#32
  let arg10 : BitVec 32 := Scf.iv c0_i32_759 c1_i32_761 k2_t4
  let c0_i32_1557 : BitVec 32 := 0#32
  let v1060 : BitVec 1 := Scalar.cmpi .sgt arg10 c0_i32_1557
  let v1061 : BitVec 32 := Scalar.extui v1060
  let c0_i32_1558 : BitVec 32 := 0#32
  let v1062 : BitVec 1 := Scalar.cmpi .slt arg10 c0_i32_1558
  let v1063 : BitVec 32 := Scalar.extui v1062
  let v1064 : BitVec 32 := Scalar.subi v1061 v1063
  let c8_i32_1556 : BitVec 32 := 8#32
  let c0_i32_1559 : BitVec 32 := 0#32
  let v1065 : BitVec 1 := Scalar.cmpi .sgt c8_i32_1556 c0_i32_1559
  let v1066 : BitVec 32 := Scalar.extui v1065
  let c0_i32_1560 : BitVec 32 := 0#32
  let v1067 : BitVec 1 := Scalar.cmpi .slt c8_i32_1556 c0_i32_1560
  let v1068 : BitVec 32 := Scalar.extui v1067
  let v1069 : BitVec 32 := Scalar.subi v1066 v1068
  let v1070 : BitVec 1 := Scalar.cmpi .ne v1064 v1069
  let v1071 : BitVec 32 := Scalar.remsi arg10 c8_i32_1556
  let c0_i32_1561 : BitVec 32 := 0#32
  let v1072 : BitVec 1 := Scalar.cmpi .ne v1071 c0_i32_1561
  let v1073 : BitVec 1 := Scalar.andi v1070 v1072
  let v1059 : BitVec 32 := Scalar.divsi arg10 c8_i32_1556
  let c1_i32_1562 : BitVec 32 := 1#32
  let v1074 : BitVec 32 := Scalar.subi v1059 c1_i32_1562
  let v1075 : BitVec 32 := Scalar.select v1073 v1074 v1059
  let v1087 : Index := Scalar.indexCast v1075
  let c8_i32_1563 : BitVec 32 := 8#32
  let c0_i32_1564 : BitVec 32 := 0#32
  let v1076 : BitVec 1 := Scalar.cmpi .eq c8_i32_1563 c0_i32_1564
  let c1_i32_1565 : BitVec 32 := 1#32
  let v1077 : BitVec 32 := Scalar.select v1076 c1_i32_1565 c8_i32_1563
  let v1078 : BitVec 32 := Scalar.remsi arg10 v1077
  let c0_i32_1567 : BitVec 32 := 0#32
  let v1080 : BitVec 1 := Scalar.cmpi .slt v1078 c0_i32_1567
  let c0_i32_1568 : BitVec 32 := 0#32
  let v1081 : BitVec 1 := Scalar.cmpi .slt v1077 c0_i32_1568
  let v1082 : BitVec 1 := Scalar.xori v1080 v1081
  let c0_i32_1566 : BitVec 32 := 0#32
  let v1079 : BitVec 1 := Scalar.cmpi .ne v1078 c0_i32_1566
  let v1083 : BitVec 1 := Scalar.andi v1082 v1079
  let v1084 : BitVec 32 := Scalar.addi v1078 v1077
  let v1085 : BitVec 32 := Scalar.select v1083 v1084 v1078
  let c16_i32_1569 : BitVec 32 := 16#32
  let v1086 : BitVec 32 := Scalar.muli v1085 c16_i32_1569
  let v1088 : Index := Scalar.indexCast v1086
  ![v1087.toNat, v1088.toNat]
def k2_off10 (k2_t4 : Fin k2_t4_loop.trips) (c0_i32_1571 : BitVec 32) : Fin 2 → Nat :=
  let c0_i32_759 : BitVec 32 := 0#32
  let c1_i32_761 : BitVec 32 := 1#32
  let arg10 : BitVec 32 := Scf.iv c0_i32_759 c1_i32_761 k2_t4
  let c16_i32_1570 : BitVec 32 := 16#32
  let v1091 : BitVec 32 := Scalar.muli arg10 c16_i32_1570
  let v1092 : BitVec 32 := Scalar.addi v1091 c0_i32_1571
  let v1096 : Index := Scalar.indexCast v1092
  let c0 : Index := 0#32
  ![v1096.toNat, 0]
@[reducible] def k2_t5_loop : Scf.Loop 32 :=
  let c0_i32_957 : BitVec 32 := 0#32
  let c128_i32_958 : BitVec 32 := 128#32
  let v660 : BitVec 32 := Scalar.addi c0_i32_957 c128_i32_958
  let c1_i32_959 : BitVec 32 := 1#32
  ⟨c0_i32_957, v660, c1_i32_959⟩
def k2_off11 (k2_t5 : Fin k2_t5_loop.trips) : Fin 2 → Nat :=
  let c0_i32_957 : BitVec 32 := 0#32
  let c1_i32_959 : BitVec 32 := 1#32
  let arg10 : BitVec 32 := Scf.iv c0_i32_957 c1_i32_959 k2_t5
  let c0_i32_1557 : BitVec 32 := 0#32
  let v1060 : BitVec 1 := Scalar.cmpi .sgt arg10 c0_i32_1557
  let v1061 : BitVec 32 := Scalar.extui v1060
  let c0_i32_1558 : BitVec 32 := 0#32
  let v1062 : BitVec 1 := Scalar.cmpi .slt arg10 c0_i32_1558
  let v1063 : BitVec 32 := Scalar.extui v1062
  let v1064 : BitVec 32 := Scalar.subi v1061 v1063
  let c8_i32_1556 : BitVec 32 := 8#32
  let c0_i32_1559 : BitVec 32 := 0#32
  let v1065 : BitVec 1 := Scalar.cmpi .sgt c8_i32_1556 c0_i32_1559
  let v1066 : BitVec 32 := Scalar.extui v1065
  let c0_i32_1560 : BitVec 32 := 0#32
  let v1067 : BitVec 1 := Scalar.cmpi .slt c8_i32_1556 c0_i32_1560
  let v1068 : BitVec 32 := Scalar.extui v1067
  let v1069 : BitVec 32 := Scalar.subi v1066 v1068
  let v1070 : BitVec 1 := Scalar.cmpi .ne v1064 v1069
  let v1071 : BitVec 32 := Scalar.remsi arg10 c8_i32_1556
  let c0_i32_1561 : BitVec 32 := 0#32
  let v1072 : BitVec 1 := Scalar.cmpi .ne v1071 c0_i32_1561
  let v1073 : BitVec 1 := Scalar.andi v1070 v1072
  let v1059 : BitVec 32 := Scalar.divsi arg10 c8_i32_1556
  let c1_i32_1562 : BitVec 32 := 1#32
  let v1074 : BitVec 32 := Scalar.subi v1059 c1_i32_1562
  let v1075 : BitVec 32 := Scalar.select v1073 v1074 v1059
  let v1087 : Index := Scalar.indexCast v1075
  let c8_i32_1563 : BitVec 32 := 8#32
  let c0_i32_1564 : BitVec 32 := 0#32
  let v1076 : BitVec 1 := Scalar.cmpi .eq c8_i32_1563 c0_i32_1564
  let c1_i32_1565 : BitVec 32 := 1#32
  let v1077 : BitVec 32 := Scalar.select v1076 c1_i32_1565 c8_i32_1563
  let v1078 : BitVec 32 := Scalar.remsi arg10 v1077
  let c0_i32_1567 : BitVec 32 := 0#32
  let v1080 : BitVec 1 := Scalar.cmpi .slt v1078 c0_i32_1567
  let c0_i32_1568 : BitVec 32 := 0#32
  let v1081 : BitVec 1 := Scalar.cmpi .slt v1077 c0_i32_1568
  let v1082 : BitVec 1 := Scalar.xori v1080 v1081
  let c0_i32_1566 : BitVec 32 := 0#32
  let v1079 : BitVec 1 := Scalar.cmpi .ne v1078 c0_i32_1566
  let v1083 : BitVec 1 := Scalar.andi v1082 v1079
  let v1084 : BitVec 32 := Scalar.addi v1078 v1077
  let v1085 : BitVec 32 := Scalar.select v1083 v1084 v1078
  let c16_i32_1569 : BitVec 32 := 16#32
  let v1086 : BitVec 32 := Scalar.muli v1085 c16_i32_1569
  let v1088 : Index := Scalar.indexCast v1086
  ![v1087.toNat, v1088.toNat]
def k2_off12 (k2_t5 : Fin k2_t5_loop.trips) (c0_i32_1571 : BitVec 32) : Fin 2 → Nat :=
  let c0_i32_957 : BitVec 32 := 0#32
  let c1_i32_959 : BitVec 32 := 1#32
  let arg10 : BitVec 32 := Scf.iv c0_i32_957 c1_i32_959 k2_t5
  let c16_i32_1570 : BitVec 32 := 16#32
  let v1091 : BitVec 32 := Scalar.muli arg10 c16_i32_1570
  let v1092 : BitVec 32 := Scalar.addi v1091 c0_i32_1571
  let v1096 : Index := Scalar.indexCast v1092
  let c0 : Index := 0#32
  ![v1096.toNat, 0]
@[reducible] def k2_t6_loop : Scf.Loop 32 :=
  let c0_i32_1155 : BitVec 32 := 0#32
  let c128_i32_1156 : BitVec 32 := 128#32
  let v792 : BitVec 32 := Scalar.addi c0_i32_1155 c128_i32_1156
  let c1_i32_1157 : BitVec 32 := 1#32
  ⟨c0_i32_1155, v792, c1_i32_1157⟩
def k2_off13 (k2_t6 : Fin k2_t6_loop.trips) : Fin 2 → Nat :=
  let c0_i32_1155 : BitVec 32 := 0#32
  let c1_i32_1157 : BitVec 32 := 1#32
  let arg10 : BitVec 32 := Scf.iv c0_i32_1155 c1_i32_1157 k2_t6
  let c0_i32_1557 : BitVec 32 := 0#32
  let v1060 : BitVec 1 := Scalar.cmpi .sgt arg10 c0_i32_1557
  let v1061 : BitVec 32 := Scalar.extui v1060
  let c0_i32_1558 : BitVec 32 := 0#32
  let v1062 : BitVec 1 := Scalar.cmpi .slt arg10 c0_i32_1558
  let v1063 : BitVec 32 := Scalar.extui v1062
  let v1064 : BitVec 32 := Scalar.subi v1061 v1063
  let c8_i32_1556 : BitVec 32 := 8#32
  let c0_i32_1559 : BitVec 32 := 0#32
  let v1065 : BitVec 1 := Scalar.cmpi .sgt c8_i32_1556 c0_i32_1559
  let v1066 : BitVec 32 := Scalar.extui v1065
  let c0_i32_1560 : BitVec 32 := 0#32
  let v1067 : BitVec 1 := Scalar.cmpi .slt c8_i32_1556 c0_i32_1560
  let v1068 : BitVec 32 := Scalar.extui v1067
  let v1069 : BitVec 32 := Scalar.subi v1066 v1068
  let v1070 : BitVec 1 := Scalar.cmpi .ne v1064 v1069
  let v1071 : BitVec 32 := Scalar.remsi arg10 c8_i32_1556
  let c0_i32_1561 : BitVec 32 := 0#32
  let v1072 : BitVec 1 := Scalar.cmpi .ne v1071 c0_i32_1561
  let v1073 : BitVec 1 := Scalar.andi v1070 v1072
  let v1059 : BitVec 32 := Scalar.divsi arg10 c8_i32_1556
  let c1_i32_1562 : BitVec 32 := 1#32
  let v1074 : BitVec 32 := Scalar.subi v1059 c1_i32_1562
  let v1075 : BitVec 32 := Scalar.select v1073 v1074 v1059
  let v1087 : Index := Scalar.indexCast v1075
  let c8_i32_1563 : BitVec 32 := 8#32
  let c0_i32_1564 : BitVec 32 := 0#32
  let v1076 : BitVec 1 := Scalar.cmpi .eq c8_i32_1563 c0_i32_1564
  let c1_i32_1565 : BitVec 32 := 1#32
  let v1077 : BitVec 32 := Scalar.select v1076 c1_i32_1565 c8_i32_1563
  let v1078 : BitVec 32 := Scalar.remsi arg10 v1077
  let c0_i32_1567 : BitVec 32 := 0#32
  let v1080 : BitVec 1 := Scalar.cmpi .slt v1078 c0_i32_1567
  let c0_i32_1568 : BitVec 32 := 0#32
  let v1081 : BitVec 1 := Scalar.cmpi .slt v1077 c0_i32_1568
  let v1082 : BitVec 1 := Scalar.xori v1080 v1081
  let c0_i32_1566 : BitVec 32 := 0#32
  let v1079 : BitVec 1 := Scalar.cmpi .ne v1078 c0_i32_1566
  let v1083 : BitVec 1 := Scalar.andi v1082 v1079
  let v1084 : BitVec 32 := Scalar.addi v1078 v1077
  let v1085 : BitVec 32 := Scalar.select v1083 v1084 v1078
  let c16_i32_1569 : BitVec 32 := 16#32
  let v1086 : BitVec 32 := Scalar.muli v1085 c16_i32_1569
  let v1088 : Index := Scalar.indexCast v1086
  ![v1087.toNat, v1088.toNat]
def k2_off14 (k2_t6 : Fin k2_t6_loop.trips) (c0_i32_1571 : BitVec 32) : Fin 2 → Nat :=
  let c0_i32_1155 : BitVec 32 := 0#32
  let c1_i32_1157 : BitVec 32 := 1#32
  let arg10 : BitVec 32 := Scf.iv c0_i32_1155 c1_i32_1157 k2_t6
  let c16_i32_1570 : BitVec 32 := 16#32
  let v1091 : BitVec 32 := Scalar.muli arg10 c16_i32_1570
  let v1092 : BitVec 32 := Scalar.addi v1091 c0_i32_1571
  let v1096 : Index := Scalar.indexCast v1092
  let c0 : Index := 0#32
  ![v1096.toNat, 0]
@[reducible] def k2_t7_loop : Scf.Loop 32 :=
  let c0_i32_1353 : BitVec 32 := 0#32
  let c128_i32_1354 : BitVec 32 := 128#32
  let v924 : BitVec 32 := Scalar.addi c0_i32_1353 c128_i32_1354
  let c1_i32_1355 : BitVec 32 := 1#32
  ⟨c0_i32_1353, v924, c1_i32_1355⟩
def k2_off15 (k2_t7 : Fin k2_t7_loop.trips) : Fin 2 → Nat :=
  let c0_i32_1353 : BitVec 32 := 0#32
  let c1_i32_1355 : BitVec 32 := 1#32
  let arg10 : BitVec 32 := Scf.iv c0_i32_1353 c1_i32_1355 k2_t7
  let c0_i32_1557 : BitVec 32 := 0#32
  let v1060 : BitVec 1 := Scalar.cmpi .sgt arg10 c0_i32_1557
  let v1061 : BitVec 32 := Scalar.extui v1060
  let c0_i32_1558 : BitVec 32 := 0#32
  let v1062 : BitVec 1 := Scalar.cmpi .slt arg10 c0_i32_1558
  let v1063 : BitVec 32 := Scalar.extui v1062
  let v1064 : BitVec 32 := Scalar.subi v1061 v1063
  let c8_i32_1556 : BitVec 32 := 8#32
  let c0_i32_1559 : BitVec 32 := 0#32
  let v1065 : BitVec 1 := Scalar.cmpi .sgt c8_i32_1556 c0_i32_1559
  let v1066 : BitVec 32 := Scalar.extui v1065
  let c0_i32_1560 : BitVec 32 := 0#32
  let v1067 : BitVec 1 := Scalar.cmpi .slt c8_i32_1556 c0_i32_1560
  let v1068 : BitVec 32 := Scalar.extui v1067
  let v1069 : BitVec 32 := Scalar.subi v1066 v1068
  let v1070 : BitVec 1 := Scalar.cmpi .ne v1064 v1069
  let v1071 : BitVec 32 := Scalar.remsi arg10 c8_i32_1556
  let c0_i32_1561 : BitVec 32 := 0#32
  let v1072 : BitVec 1 := Scalar.cmpi .ne v1071 c0_i32_1561
  let v1073 : BitVec 1 := Scalar.andi v1070 v1072
  let v1059 : BitVec 32 := Scalar.divsi arg10 c8_i32_1556
  let c1_i32_1562 : BitVec 32 := 1#32
  let v1074 : BitVec 32 := Scalar.subi v1059 c1_i32_1562
  let v1075 : BitVec 32 := Scalar.select v1073 v1074 v1059
  let v1087 : Index := Scalar.indexCast v1075
  let c8_i32_1563 : BitVec 32 := 8#32
  let c0_i32_1564 : BitVec 32 := 0#32
  let v1076 : BitVec 1 := Scalar.cmpi .eq c8_i32_1563 c0_i32_1564
  let c1_i32_1565 : BitVec 32 := 1#32
  let v1077 : BitVec 32 := Scalar.select v1076 c1_i32_1565 c8_i32_1563
  let v1078 : BitVec 32 := Scalar.remsi arg10 v1077
  let c0_i32_1567 : BitVec 32 := 0#32
  let v1080 : BitVec 1 := Scalar.cmpi .slt v1078 c0_i32_1567
  let c0_i32_1568 : BitVec 32 := 0#32
  let v1081 : BitVec 1 := Scalar.cmpi .slt v1077 c0_i32_1568
  let v1082 : BitVec 1 := Scalar.xori v1080 v1081
  let c0_i32_1566 : BitVec 32 := 0#32
  let v1079 : BitVec 1 := Scalar.cmpi .ne v1078 c0_i32_1566
  let v1083 : BitVec 1 := Scalar.andi v1082 v1079
  let v1084 : BitVec 32 := Scalar.addi v1078 v1077
  let v1085 : BitVec 32 := Scalar.select v1083 v1084 v1078
  let c16_i32_1569 : BitVec 32 := 16#32
  let v1086 : BitVec 32 := Scalar.muli v1085 c16_i32_1569
  let v1088 : Index := Scalar.indexCast v1086
  ![v1087.toNat, v1088.toNat]
def k2_off16 (k2_t7 : Fin k2_t7_loop.trips) (c0_i32_1571 : BitVec 32) : Fin 2 → Nat :=
  let c0_i32_1353 : BitVec 32 := 0#32
  let c1_i32_1355 : BitVec 32 := 1#32
  let arg10 : BitVec 32 := Scf.iv c0_i32_1353 c1_i32_1355 k2_t7
  let c16_i32_1570 : BitVec 32 := 16#32
  let v1091 : BitVec 32 := Scalar.muli arg10 c16_i32_1570
  let v1092 : BitVec 32 := Scalar.addi v1091 c0_i32_1571
  let v1096 : Index := Scalar.indexCast v1092
  let c0 : Index := 0#32
  ![v1096.toNat, 0]
@[reducible] def k2_t8_loop : Scf.Loop 32 :=
  let c0_i32_1551 : BitVec 32 := 0#32
  let c128_i32_1552 : BitVec 32 := 128#32
  let v1056 : BitVec 32 := Scalar.addi c0_i32_1551 c128_i32_1552
  let c1_i32_1553 : BitVec 32 := 1#32
  ⟨c0_i32_1551, v1056, c1_i32_1553⟩
def k2_off17 (k2_t8 : Fin k2_t8_loop.trips) : Fin 2 → Nat :=
  let c0_i32_1551 : BitVec 32 := 0#32
  let c1_i32_1553 : BitVec 32 := 1#32
  let arg10 : BitVec 32 := Scf.iv c0_i32_1551 c1_i32_1553 k2_t8
  let c0_i32_1557 : BitVec 32 := 0#32
  let v1060 : BitVec 1 := Scalar.cmpi .sgt arg10 c0_i32_1557
  let v1061 : BitVec 32 := Scalar.extui v1060
  let c0_i32_1558 : BitVec 32 := 0#32
  let v1062 : BitVec 1 := Scalar.cmpi .slt arg10 c0_i32_1558
  let v1063 : BitVec 32 := Scalar.extui v1062
  let v1064 : BitVec 32 := Scalar.subi v1061 v1063
  let c8_i32_1556 : BitVec 32 := 8#32
  let c0_i32_1559 : BitVec 32 := 0#32
  let v1065 : BitVec 1 := Scalar.cmpi .sgt c8_i32_1556 c0_i32_1559
  let v1066 : BitVec 32 := Scalar.extui v1065
  let c0_i32_1560 : BitVec 32 := 0#32
  let v1067 : BitVec 1 := Scalar.cmpi .slt c8_i32_1556 c0_i32_1560
  let v1068 : BitVec 32 := Scalar.extui v1067
  let v1069 : BitVec 32 := Scalar.subi v1066 v1068
  let v1070 : BitVec 1 := Scalar.cmpi .ne v1064 v1069
  let v1071 : BitVec 32 := Scalar.remsi arg10 c8_i32_1556
  let c0_i32_1561 : BitVec 32 := 0#32
  let v1072 : BitVec 1 := Scalar.cmpi .ne v1071 c0_i32_1561
  let v1073 : BitVec 1 := Scalar.andi v1070 v1072
  let v1059 : BitVec 32 := Scalar.divsi arg10 c8_i32_1556
  let c1_i32_1562 : BitVec 32 := 1#32
  let v1074 : BitVec 32 := Scalar.subi v1059 c1_i32_1562
  let v1075 : BitVec 32 := Scalar.select v1073 v1074 v1059
  let v1087 : Index := Scalar.indexCast v1075
  let c8_i32_1563 : BitVec 32 := 8#32
  let c0_i32_1564 : BitVec 32 := 0#32
  let v1076 : BitVec 1 := Scalar.cmpi .eq c8_i32_1563 c0_i32_1564
  let c1_i32_1565 : BitVec 32 := 1#32
  let v1077 : BitVec 32 := Scalar.select v1076 c1_i32_1565 c8_i32_1563
  let v1078 : BitVec 32 := Scalar.remsi arg10 v1077
  let c0_i32_1567 : BitVec 32 := 0#32
  let v1080 : BitVec 1 := Scalar.cmpi .slt v1078 c0_i32_1567
  let c0_i32_1568 : BitVec 32 := 0#32
  let v1081 : BitVec 1 := Scalar.cmpi .slt v1077 c0_i32_1568
  let v1082 : BitVec 1 := Scalar.xori v1080 v1081
  let c0_i32_1566 : BitVec 32 := 0#32
  let v1079 : BitVec 1 := Scalar.cmpi .ne v1078 c0_i32_1566
  let v1083 : BitVec 1 := Scalar.andi v1082 v1079
  let v1084 : BitVec 32 := Scalar.addi v1078 v1077
  let v1085 : BitVec 32 := Scalar.select v1083 v1084 v1078
  let c16_i32_1569 : BitVec 32 := 16#32
  let v1086 : BitVec 32 := Scalar.muli v1085 c16_i32_1569
  let v1088 : Index := Scalar.indexCast v1086
  ![v1087.toNat, v1088.toNat]
def k2_off18 (k2_t8 : Fin k2_t8_loop.trips) (c0_i32_1571 : BitVec 32) : Fin 2 → Nat :=
  let c0_i32_1551 : BitVec 32 := 0#32
  let c1_i32_1553 : BitVec 32 := 1#32
  let arg10 : BitVec 32 := Scf.iv c0_i32_1551 c1_i32_1553 k2_t8
  let c16_i32_1570 : BitVec 32 := 16#32
  let v1091 : BitVec 32 := Scalar.muli arg10 c16_i32_1570
  let v1092 : BitVec 32 := Scalar.addi v1091 c0_i32_1571
  let v1096 : Index := Scalar.indexCast v1092
  let c0 : Index := 0#32
  ![v1096.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x2048x2048 : Shape := ⟨3, ![2, 2048, 2048]⟩
abbrev S128x65536x16 : Shape := ⟨3, ![128, 65536, 16]⟩
abbrev S2x2048x128x16 : Shape := ⟨4, ![2, 2048, 128, 16]⟩
abbrev S_ : Shape := ⟨0, ![]⟩
abbrev S16 : Shape := ⟨1, ![16]⟩
abbrev S1x1x1x16 : Shape := ⟨4, ![1, 1, 1, 16]⟩
abbrev S2x2048x128 : Shape := ⟨3, ![2, 2048, 128]⟩
abbrev S128 : Shape := ⟨1, ![128]⟩
abbrev S1x1x128 : Shape := ⟨3, ![1, 1, 128]⟩
abbrev S2x2048x128x1 : Shape := ⟨4, ![2, 2048, 128, 1]⟩
abbrev S2x2048x128x2 : Shape := ⟨4, ![2, 2048, 128, 2]⟩

abbrev nBuf : Space → Nat
  | .hbm => 163
  | .vmem => 0
  | .smem => 0
  | _ => 0

abbrev hbmTy0_0 (i : Nat) : BufTy := match i % 128 with
  | 0 => ⟨S2x2048x2048, .f32⟩
  | 1 => ⟨S128x65536x16, .f32⟩
  | 2 => ⟨S2x2048x128x16, .f32⟩
  | 3 => ⟨S_, .f32⟩
  | 4 => ⟨S2x2048x128x16, .f32⟩
  | 5 => ⟨S2x2048x128x16, .i1⟩
  | 6 => ⟨S2x2048x128x16, .i32⟩
  | 7 => ⟨S16, .i32⟩
  | 8 => ⟨S_, .i32⟩
  | 9 => ⟨S16, .i32⟩
  | 10 => ⟨S16, .i32⟩
  | 11 => ⟨S_, .i32⟩
  | 12 => ⟨S16, .i32⟩
  | 13 => ⟨S16, .i32⟩
  | 14 => ⟨S_, .i32⟩
  | 15 => ⟨S_, .i32⟩
  | 16 => ⟨S_, .i1⟩
  | 17 => ⟨S_, .i32⟩
  | 18 => ⟨S16, .i32⟩
  | 19 => ⟨S16, .i1⟩
  | 20 => ⟨S16, .i1⟩
  | 21 => ⟨S16, .i1⟩
  | 22 => ⟨S_, .i32⟩
  | 23 => ⟨S_, .i32⟩
  | 24 => ⟨S16, .i32⟩
  | 25 => ⟨S16, .i32⟩
  | 26 => ⟨S16, .i32⟩
  | 27 => ⟨S_, .i32⟩
  | 28 => ⟨S16, .i32⟩
  | 29 => ⟨S16, .i32⟩
  | 30 => ⟨S_, .i32⟩
  | 31 => ⟨S16, .i32⟩
  | 32 => ⟨S16, .i32⟩
  | 33 => ⟨S_, .i32⟩
  | 34 => ⟨S16, .i32⟩
  | 35 => ⟨S16, .i1⟩
  | 36 => ⟨S16, .i32⟩
  | 37 => ⟨S_, .i32⟩
  | 38 => ⟨S_, .i32⟩
  | 39 => ⟨S_, .i32⟩
  | 40 => ⟨S_, .i32⟩
  | 41 => ⟨S16, .i32⟩
  | 42 => ⟨S16, .i32⟩
  | 43 => ⟨S_, .i32⟩
  | 44 => ⟨S16, .i32⟩
  | 45 => ⟨S16, .i32⟩
  | 46 => ⟨S16, .i32⟩
  | 47 => ⟨S16, .i32⟩
  | 48 => ⟨S_, .i32⟩
  | 49 => ⟨S16, .i32⟩
  | 50 => ⟨S16, .i1⟩
  | 51 => ⟨S16, .i32⟩
  | 52 => ⟨S_, .i32⟩
  | 53 => ⟨S_, .i32⟩
  | 54 => ⟨S16, .i32⟩
  | 55 => ⟨S16, .i32⟩
  | 56 => ⟨S_, .i32⟩
  | 57 => ⟨S16, .i32⟩
  | 58 => ⟨S16, .i32⟩
  | 59 => ⟨S16, .i32⟩
  | 60 => ⟨S16, .i32⟩
  | 61 => ⟨S_, .i32⟩
  | 62 => ⟨S16, .i32⟩
  | 63 => ⟨S16, .i1⟩
  | 64 => ⟨S16, .i32⟩
  | 65 => ⟨S_, .i32⟩
  | 66 => ⟨S_, .i32⟩
  | 67 => ⟨S16, .i32⟩
  | 68 => ⟨S16, .i32⟩
  | 69 => ⟨S_, .i32⟩
  | 70 => ⟨S16, .i32⟩
  | 71 => ⟨S16, .i32⟩
  | 72 => ⟨S16, .i32⟩
  | 73 => ⟨S16, .i32⟩
  | 74 => ⟨S_, .i32⟩
  | 75 => ⟨S16, .i32⟩
  | 76 => ⟨S16, .i1⟩
  | 77 => ⟨S16, .i32⟩
  | 78 => ⟨S_, .i32⟩
  | 79 => ⟨S_, .i32⟩
  | 80 => ⟨S16, .i32⟩
  | 81 => ⟨S16, .i32⟩
  | 82 => ⟨S_, .i32⟩
  | 83 => ⟨S16, .i32⟩
  | 84 => ⟨S16, .i32⟩
  | 85 => ⟨S16, .i32⟩
  | 86 => ⟨S16, .i32⟩
  | 87 => ⟨S_, .i32⟩
  | 88 => ⟨S16, .i32⟩
  | 89 => ⟨S16, .i1⟩
  | 90 => ⟨S16, .i32⟩
  | 91 => ⟨S_, .i32⟩
  | 92 => ⟨S_, .i32⟩
  | 93 => ⟨S16, .i32⟩
  | 94 => ⟨S16, .i32⟩
  | 95 => ⟨S_, .i32⟩
  | 96 => ⟨S16, .i32⟩
  | 97 => ⟨S16, .i32⟩
  | 98 => ⟨S16, .i32⟩
  | 99 => ⟨S16, .i32⟩
  | 100 => ⟨S_, .i32⟩
  | 101 => ⟨S16, .i32⟩
  | 102 => ⟨S16, .i1⟩
  | 103 => ⟨S16, .i32⟩
  | 104 => ⟨S_, .i32⟩
  | 105 => ⟨S_, .i32⟩
  | 106 => ⟨S16, .i32⟩
  | 107 => ⟨S16, .i32⟩
  | 108 => ⟨S1x1x1x16, .i32⟩
  | 109 => ⟨S2x2048x128x16, .i32⟩
  | 110 => ⟨S2x2048x128x16, .i32⟩
  | 111 => ⟨S_, .i32⟩
  | 112 => ⟨S2x2048x128, .i32⟩
  | 113 => ⟨S128, .i32⟩
  | 114 => ⟨S1x1x128, .i32⟩
  | 115 => ⟨S_, .i32⟩
  | 116 => ⟨S1x1x128, .i32⟩
  | 117 => ⟨S1x1x128, .i1⟩
  | 118 => ⟨S_, .i32⟩
  | 119 => ⟨S1x1x128, .i32⟩
  | 120 => ⟨S1x1x128, .i32⟩
  | 121 => ⟨S1x1x128, .i32⟩
  | 122 => ⟨S_, .i32⟩
  | 123 => ⟨S2x2048x128, .i32⟩
  | 124 => ⟨S2x2048x128, .i1⟩
  | 125 => ⟨S_, .i32⟩
  | 126 => ⟨S2x2048x128, .i32⟩
  | 127 => ⟨S2x2048x128, .i32⟩
  | _ => ⟨S2x2048x2048, .f32⟩

abbrev hbmTy0_1 (i : Nat) : BufTy := match i % 128 with
  | 0 => ⟨S2x2048x128, .i32⟩
  | 1 => ⟨S2x2048x128, .i32⟩
  | 2 => ⟨S2x2048x128x1, .i32⟩
  | 3 => ⟨S2x2048x128x1, .i32⟩
  | 4 => ⟨S2x2048x128x2, .i32⟩
  | 5 => ⟨S2x2048x128x16, .f32⟩
  | 6 => ⟨S_, .f32⟩
  | 7 => ⟨S2x2048x128x16, .f32⟩
  | 8 => ⟨S2x2048x128x16, .f32⟩
  | 9 => ⟨S_, .f32⟩
  | 10 => ⟨S2x2048x128x16, .f32⟩
  | 11 => ⟨S2x2048x128x16, .f32⟩
  | 12 => ⟨S2x2048x128x16, .f32⟩
  | 13 => ⟨S_, .f32⟩
  | 14 => ⟨S2x2048x128x16, .f32⟩
  | 15 => ⟨S2x2048x128x16, .f32⟩
  | 16 => ⟨S2x2048x128x16, .f32⟩
  | 17 => ⟨S2x2048x128x16, .f32⟩
  | 18 => ⟨S2x2048x128x16, .i1⟩
  | 19 => ⟨S2x2048x128x16, .f32⟩
  | 20 => ⟨S2x2048x128x16, .f32⟩
  | 21 => ⟨S2x2048x128x16, .f32⟩
  | 22 => ⟨S2x2048x128x16, .f32⟩
  | 23 => ⟨S2x2048x128x16, .f32⟩
  | 24 => ⟨S2x2048x128x16, .f32⟩
  | 25 => ⟨S2x2048x128x16, .f32⟩
  | 26 => ⟨S2x2048x128x16, .f32⟩
  | 27 => ⟨S2x2048x128x16, .f32⟩
  | 28 => ⟨S_, .f32⟩
  | 29 => ⟨S2x2048x128, .f32⟩
  | 30 => ⟨S2x2048x128, .f32⟩
  | 31 => ⟨S2x2048x128x1, .f32⟩
  | 32 => ⟨S2x2048x128x16, .f32⟩
  | 33 => ⟨S2x2048x128x16, .f32⟩
  | 34 => ⟨S2x2048x2048, .f32⟩
  | _ => ⟨S2x2048x2048, .f32⟩

abbrev hbmTy (i : Nat) : BufTy := match i / 128 with
  | 0 => hbmTy0_0 i
  | 1 => hbmTy0_1 i
  | _ => ⟨S2x2048x2048, .f32⟩

abbrev bufTy : (tb : Table) → Fin (tcTables nBuf tb) → BufTy
  | .hbm, ⟨i, _⟩ => hbmTy i
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_c_2 : Ref sig .tc := ⟨.hbm, 15, rfl⟩
abbrev main_v9 : Ref sig .tc := ⟨.hbm, 16, rfl⟩
abbrev main_c_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_4 : Ref sig .tc := ⟨.hbm, 22, rfl⟩
abbrev main_c_5 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c_6 : Ref sig .tc := ⟨.hbm, 27, rfl⟩
abbrev main_v15 : Ref sig .tc := ⟨.hbm, 28, rfl⟩
abbrev main_v16 : Ref sig .tc := ⟨.hbm, 29, rfl⟩
abbrev main_c_7 : Ref sig .tc := ⟨.hbm, 30, rfl⟩
abbrev main_v17 : Ref sig .tc := ⟨.hbm, 31, rfl⟩
abbrev main_v18 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_v19 : Ref sig .tc := ⟨.hbm, 36, rfl⟩
abbrev main_c_8 : Ref sig .tc := ⟨.hbm, 37, rfl⟩
abbrev main_c_9 : Ref sig .tc := ⟨.hbm, 38, rfl⟩
abbrev main_v20 : Ref sig .tc := ⟨.hbm, 39, rfl⟩
abbrev main_c_10 : Ref sig .tc := ⟨.hbm, 40, rfl⟩
abbrev main_v21 : Ref sig .tc := ⟨.hbm, 41, rfl⟩
abbrev main_v22 : Ref sig .tc := ⟨.hbm, 42, rfl⟩
abbrev main_c_11 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_call2_c : Ref sig .tc := ⟨.hbm, 48, rfl⟩
abbrev main_call2_v0 : Ref sig .tc := ⟨.hbm, 49, rfl⟩
abbrev main_call2_v1 : Ref sig .tc := ⟨.hbm, 50, rfl⟩
abbrev main_v27 : Ref sig .tc := ⟨.hbm, 51, rfl⟩
abbrev main_v28 : Ref sig .tc := ⟨.hbm, 52, rfl⟩
abbrev main_c_12 : Ref sig .tc := ⟨.hbm, 53, rfl⟩
abbrev main_v29 : Ref sig .tc := ⟨.hbm, 54, rfl⟩
abbrev main_v30 : Ref sig .tc := ⟨.hbm, 55, rfl⟩
abbrev main_c_13 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_call3_c : Ref sig .tc := ⟨.hbm, 61, rfl⟩
abbrev main_call3_v0 : Ref sig .tc := ⟨.hbm, 62, rfl⟩
abbrev main_call3_v1 : Ref sig .tc := ⟨.hbm, 63, rfl⟩
abbrev main_v35 : Ref sig .tc := ⟨.hbm, 64, rfl⟩
abbrev main_v36 : Ref sig .tc := ⟨.hbm, 65, rfl⟩
abbrev main_c_14 : Ref sig .tc := ⟨.hbm, 66, rfl⟩
abbrev main_v37 : Ref sig .tc := ⟨.hbm, 67, rfl⟩
abbrev main_v38 : Ref sig .tc := ⟨.hbm, 68, rfl⟩
abbrev main_c_15 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_call4_c : Ref sig .tc := ⟨.hbm, 74, rfl⟩
abbrev main_call4_v0 : Ref sig .tc := ⟨.hbm, 75, rfl⟩
abbrev main_call4_v1 : Ref sig .tc := ⟨.hbm, 76, rfl⟩
abbrev main_v43 : Ref sig .tc := ⟨.hbm, 77, rfl⟩
abbrev main_v44 : Ref sig .tc := ⟨.hbm, 78, rfl⟩
abbrev main_c_16 : Ref sig .tc := ⟨.hbm, 79, rfl⟩
abbrev main_v45 : Ref sig .tc := ⟨.hbm, 80, rfl⟩
abbrev main_v46 : Ref sig .tc := ⟨.hbm, 81, rfl⟩
abbrev main_c_17 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_call5_c : Ref sig .tc := ⟨.hbm, 87, rfl⟩
abbrev main_call5_v0 : Ref sig .tc := ⟨.hbm, 88, rfl⟩
abbrev main_call5_v1 : Ref sig .tc := ⟨.hbm, 89, rfl⟩
abbrev main_v51 : Ref sig .tc := ⟨.hbm, 90, rfl⟩
abbrev main_v52 : Ref sig .tc := ⟨.hbm, 91, rfl⟩
abbrev main_c_18 : Ref sig .tc := ⟨.hbm, 92, rfl⟩
abbrev main_v53 : Ref sig .tc := ⟨.hbm, 93, rfl⟩
abbrev main_v54 : Ref sig .tc := ⟨.hbm, 94, rfl⟩
abbrev main_c_19 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_call6_c : Ref sig .tc := ⟨.hbm, 100, rfl⟩
abbrev main_call6_v0 : Ref sig .tc := ⟨.hbm, 101, rfl⟩
abbrev main_call6_v1 : Ref sig .tc := ⟨.hbm, 102, rfl⟩
abbrev main_v59 : Ref sig .tc := ⟨.hbm, 103, rfl⟩
abbrev main_v60 : Ref sig .tc := ⟨.hbm, 104, rfl⟩
abbrev main_c_20 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_c_21 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_c_22 : Ref sig .tc := ⟨.hbm, 115, rfl⟩
abbrev main_v69 : Ref sig .tc := ⟨.hbm, 116, rfl⟩
abbrev main_v70 : Ref sig .tc := ⟨.hbm, 117, rfl⟩
abbrev main_c_23 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_c_24 : Ref sig .tc := ⟨.hbm, 122, rfl⟩
abbrev main_v74 : Ref sig .tc := ⟨.hbm, 123, rfl⟩
abbrev main_v75 : Ref sig .tc := ⟨.hbm, 124, rfl⟩
abbrev main_c_25 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_cst_26 : Ref sig .tc := ⟨.hbm, 134, rfl⟩
abbrev main_v84 : Ref sig .tc := ⟨.hbm, 135, rfl⟩
abbrev main_v85 : Ref sig .tc := ⟨.hbm, 136, rfl⟩
abbrev main_cst_27 : Ref sig .tc := ⟨.hbm, 137, rfl⟩
abbrev main_v86 : Ref sig .tc := ⟨.hbm, 138, rfl⟩
abbrev main_v87 : Ref sig .tc := ⟨.hbm, 139, rfl⟩
abbrev main_call7_v0 : Ref sig .tc := ⟨.hbm, 140, rfl⟩
abbrev main_call7_call0_cst : Ref sig .tc := ⟨.hbm, 141, rfl⟩
abbrev main_call7_call0_v0 : Ref sig .tc := ⟨.hbm, 142, rfl⟩
abbrev main_call7_call0_v1 : Ref sig .tc := ⟨.hbm, 143, rfl⟩
abbrev main_call7_call0_v2 : Ref sig .tc := ⟨.hbm, 144, rfl⟩
abbrev main_call7_call0_v3 : Ref sig .tc := ⟨.hbm, 145, rfl⟩
abbrev main_call7_call0_v4 : Ref sig .tc := ⟨.hbm, 146, rfl⟩
abbrev main_call7_call0_v5 : Ref sig .tc := ⟨.hbm, 147, rfl⟩
abbrev main_call7_call0_v6 : Ref sig .tc := ⟨.hbm, 148, rfl⟩
abbrev main_call7_call0_v7 : Ref sig .tc := ⟨.hbm, 149, rfl⟩
abbrev main_call7_call0_v8 : Ref sig .tc := ⟨.hbm, 150, rfl⟩
abbrev main_call7_call0_v9 : Ref sig .tc := ⟨.hbm, 151, rfl⟩
abbrev main_call7_call0_v10 : Ref sig .tc := ⟨.hbm, 152, rfl⟩
abbrev main_call7_call0_v11 : Ref sig .tc := ⟨.hbm, 153, rfl⟩
abbrev main_call7_v1 : Ref sig .tc := ⟨.hbm, 154, rfl⟩
abbrev main_v88 : Ref sig .tc := ⟨.hbm, 155, rfl⟩
abbrev main_cst_28 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩

abbrev nD : Nat := 1
abbrev τ : Topo := Topo.v7x

variable {F : FTy → Type} [FloatOps F]
-- ==== Proof.Setup.lean ====
/- The program of the kernel as its launch sees it: the label signature, the SparseCore configuration, the body table,
   and the resource algebra that carries the handshakes, the two pipelines' staging rounds and the local transfers. -/
module

public import Idealize.ShloMosaic.Lib.SparseCore
public import Idealize.ShloMosaic.Lib.SparseCore.Quiescent
public import Idealize.ShloMosaic.Lib.Pipeline.Kit
public import Idealize.ShloMosaic.Lib.Pipeline.FrameBody
public import Idealize.ShloMosaic.Lib.Pipeline.RegionsLoop
public import Idealize.ShloMosaic.Lib.Pipeline.RegionArrays
public import Idealize.ShloMosaic.Lib.Pipeline.FrameSuffix
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Lsh

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The labels the SparseCore layer is built over: the two pipelines' beside the kernel functions'. -/
abbrev ΛP : Labels := Pipeline.Sig Λ₀ (Fin 2) fun p => (pcfgs (F := F) p).Adm
/-- The SparseCore configuration: one vector-subcore call over two cores of sixteen tiles. -/
abbrev K : SparseCore.Cfg τ sig (ΛP (F := F)) 1 := sc (F := F)
/-- The body table below the SparseCore layer. -/
abbrev D : Defs nD τ sig (Elt F) (ΛP (F := F)) := Pipeline.defs pcfgs defs₀
/-- No kernel function recurses. -/
abbrev 𝒱₀ : Variants := Variants.none
abbrev 𝒱 : Variants := 𝒱₀.lift
abbrev v₀ : 𝒱.V := Sum.inl none

/-- The launch's own semaphores are distinct and unscoped, and no buffer of a SparseCore is shared by its tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds, -/
abbrev UH : Type := URounds (GSem nD τ sig) ℕ
/-- the pipelines' staging rounds, -/
abbrev UP : Type := URounds (GSem nD τ sig) Unit
/-- and the local transfers' counters, side by side. -/
abbrev UU : Type := UH × (UP × Counters)

/-- The machine's resource algebra with these components. -/
abbrev MM (F : FTy → Type) : Type := MT nD τ sig (HIx 1) (Elt F) ℕ UU ℕ

/-- Where the handshakes' rounds live. -/
abbrev EH : Emb UH (MM F) := embL
/-- Where the pipelines' rounds live. -/
abbrev EP : Emb UP (MM F) := (Emb.inl : Emb UP (UP × Counters)).trans embR

instance EP_landsIn : (EP (F := F)).LandsIn (upEmb : UEmb _ (MM F)) := by
  unfold EP embR; infer_instance

/-- The (own cell, index) pairs the TensorCore may have recorded before its SparseCore call: those at level zero. -/
abbrev lowPairs (c : Dev nD) : Set (SemLoc sig × HIx 1) := {p | (K (F := F)).lev ((T c : Thread nD τ), p.1) p.2 ≤ 0}

/-- What the TensorCore owes until its SparseCore call, the recorded pairs at level zero. -/
abbrev owesLow (c : Dev nD) : sProp (MM F) :=
  iprop(∃ W, ⌜(K (F := F)).WBelow (T c) W 0⌝ ∗ owes (T c : Thread nD τ) ((K (F := F)).Otc c 0) W)

end Cert.Proof.Lsh

end
-- ==== Proof.Blocks.lean ====
/- The two TensorCore kernels (the table shuffle and the preparation of codes and probabilities) on one grid point:
   what each leaves in its output blocks as a function of its input blocks, and the pipelines' proof data. -/
module

public import proofs.«01_k».proof.Proof.Setup

@[expose] public section

set_option maxRecDepth 16384

noncomputable section

namespace Cert.Proof.Lsh

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The blocks' rectangles: every access is to a whole staging buffer -/

abbrev rTab : Rect S2048x512 := Rect.unit (s := S2048x512) ![0, 0] S2048x512.size inb_S2048x512_S2048x512_0_0
abbrev rShuf : Rect S8192x128 := Rect.unit (s := S8192x128) ![0, 0] S8192x128.size inb_S8192x128_S8192x128_0_0
abbrev rTok : Rect S512x2048 := Rect.unit (s := S512x2048) ![0, 0] S512x2048.size inb_S512x2048_S512x2048_0_0
abbrev rWgt : Rect S2048x128 := Rect.unit (s := S2048x128) ![0, 0] S2048x128.size inb_S2048x128_S2048x128_0_0
abbrev rCode : Rect S512x128 := Rect.unit (s := S512x128) ![0, 0] S512x128.size inb_S512x128_S512x128_0_0

/-- The shuffled block, from a block of the table. -/
def shufOut (x : Vec F S2048x512 .f32) : Vec F S8192x128 .f32 := View.canon [⟨rShuf, k0_pay1 (View.ld x rTab)⟩]
/-- The block of row numbers, from a block of tokens and the code weights. -/
def codeOut (x : Vec F S512x2048 .f32) (wc : Vec F S2048x128 .f32) : Vec F S512x128 .i32 :=
  View.canon [⟨rCode, k1_pay1 (iota .tc S512x128 32 [1] iota_S512x128_d1_w32) (k1_pay5 (View.ld x rTok) (View.ld wc rWgt))⟩]
/-- The block of probabilities, from a block of tokens and the summing weights. -/
def probOut (x : Vec F S512x2048 .f32) (ws : Vec F S2048x128 .f32) : Vec F S512x128 .f32 :=
  View.canon [⟨rCode, k1_pay2 (k1_pay4 (View.ld x rTok) (View.ld ws rWgt))⟩]

/-- One store of the whole buffer covers it: the shuffled block, -/
theorem shuf_cover (p : Vec F S8192x128 .f32) (y : S8192x128.Idx) :
    ∃ pc ∈ ([⟨rShuf, p⟩] : List (View.Piece (Elt F) S8192x128 .f32)), y ∈ pc.1.set :=
  View.cover_of_tiled [⟨rShuf, p⟩] S8192x128.size (by rfl) y
/-- a block of row numbers or probabilities. -/
theorem code_cover {e : EltTy} (p : Vec F S512x128 e) (y : S512x128.Idx) :
    ∃ pc ∈ ([⟨rCode, p⟩] : List (View.Piece (Elt F) S512x128 e)), y ∈ pc.1.set :=
  View.cover_of_tiled [⟨rCode, p⟩] S512x128.size (by rfl) y

/-! ## The bodies on their staging buffers -/

set_option maxHeartbeats 1000000 in
/-- The shuffle's body keeps the table's block and leaves the shuffled block in the other buffer. -/
theorem shuffle_body (c : Dev nD) (E : Set ℕ) (i : grid0.Coords) (a1 : Memref sig .tc .vmem S2048x512 .f32) (h1 : a1.IsWhole)
    (a2 : Memref sig .tc .vmem S8192x128 .f32) (h2 : a2.IsWhole) (x : Vec F S2048x512 .f32) (Q : PUnit → sProp (MM F)) :
    iprop(owns (c : Thread nD τ) a1 fullShare x ∗ (∃ d, owns (c : Thread nD τ) a2 fullShare d)
        ∗ (iprop(owns (c : Thread nD τ) a1 fullShare x ∗ owns (c : Thread nD τ) a2 fullShare (shufOut x)) -∗ Q ⟨⟩))
      ⊢ wp frame (wpE (defs₀ (F := F)) Variants.none c none) E (cc0__shuffle_body i a1 h1 a2 h2) Q := by
  simp only [cc0__shuffle_body_eq_skeleton]; unfold cc0__shuffle_body_skel
  unfold owns
  iintro ⟨⟨%f1, %hf1, H1⟩, ⟨%d2, %f2, -, H2⟩, Hk⟩
  subst hf1
  sl_exec
  sl_step
  iapply Hk
  isplitl [H1]
  · iexists f1; isplitr; · ipureintro; rfl
    iexact H1
  iexists _; isplitr
  swap; · iexact H2
  ipureintro
  exact View.read_writes_eq_canon _ _ _ (shuf_cover _)

set_option maxHeartbeats 1000000 in
/-- The preparation's body keeps its three input blocks and leaves the row numbers and the probabilities. -/
theorem prep_body (c : Dev nD) (E : Set ℕ) (i : grid1.Coords) (a1 : Memref sig .tc .vmem S512x2048 .f32) (h1 : a1.IsWhole)
    (a2 : Memref sig .tc .vmem S2048x128 .f32) (h2 : a2.IsWhole) (a3 : Memref sig .tc .vmem S2048x128 .f32) (h3 : a3.IsWhole)
    (a4 : Memref sig .tc .vmem S512x128 .i32) (h4 : a4.IsWhole) (a5 : Memref sig .tc .vmem S512x128 .f32) (h5 : a5.IsWhole)
    (x : Vec F S512x2048 .f32) (wc ws : Vec F S2048x128 .f32) (Q : PUnit → sProp (MM F)) :
    iprop(owns (c : Thread nD τ) a1 fullShare x ∗ owns (c : Thread nD τ) a2 fullShare wc ∗ owns (c : Thread nD τ) a3 fullShare ws
        ∗ (∃ d, owns (c : Thread nD τ) a4 fullShare d) ∗ (∃ d, owns (c : Thread nD τ) a5 fullShare d)
        ∗ (iprop(owns (c : Thread nD τ) a1 fullShare x ∗ owns (c : Thread nD τ) a2 fullShare wc ∗ owns (c : Thread nD τ) a3 fullShare ws
            ∗ owns (c : Thread nD τ) a4 fullShare (codeOut x wc) ∗ owns (c : Thread nD τ) a5 fullShare (probOut x ws)) -∗ Q ⟨⟩))
      ⊢ wp frame (wpE (defs₀ (F := F)) Variants.none c none) E (cc1__prep_body i a1 h1 a2 h2 a3 h3 a4 h4 a5 h5) Q := by
  simp only [cc1__prep_body_eq_skeleton]; unfold cc1__prep_body_skel
  simp only [k1_part1_eq_skeleton]
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (code_cover _)
  iexists _; isplitr
  swap; · iexact H5
  ipureintro
  exact View.read_writes_eq_canon _ _ _ (code_cover _)

/-! ## The pipelines' proof data, at the buffer contents `V` the region is entered with -/

section Data
variable (V : (c : Dev nD) → (b : Ref sig .tc) → Buf (Elt F) ((c : Thread nD τ).loc b))

/-- Window `w`'s block of its array at point `t` of the shuffle's grid, -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
/-- and of the preparation's. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The shuffle's proof data: inputs stay, the output window holds the shuffled block; the core owes what it owes until the
    SparseCore call, and has recorded pairs at level zero only. -/
def shufDat (c : Dev nD) : Dat τ (Elt F) (HIx 1) ℕ UU ℕ cfg0 c where
  A w := V c (Pipeline.arrRef spec0 w)
  after w t := match w with
    | ⟨0, _⟩ => blk0 V c 0 t
    | ⟨1, _⟩ => shufOut (blk0 V c 0 t)
  Φ _ := iprop(Pipeline.scopedRest spec0 c ∗ ∃ r, prngReg c r)
  q _ := fullShare
  owed _ := (K (F := F)).Otc c 0
  recorded _ := lowPairs (F := F) c

/-- The preparation's proof data, likewise. -/
def prepDat (c : Dev nD) : Dat τ (Elt F) (HIx 1) ℕ UU ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => codeOut (blk1 V c 0 t) (blk1 V c 1 t)
    | ⟨4, _⟩ => probOut (blk1 V c 0 t) (blk1 V c 2 t)
  Φ _ := iprop(Pipeline.scopedRest spec1 c ∗ ∃ r, prngReg c r)
  q _ := fullShare
  owed _ := (K (F := F)).Otc c 0
  recorded _ := lowPairs (F := F) c

/-- The arrays are the entry contents. -/
theorem shufDat_A (c : Dev nD) (w : Fin cfg0.W) : (shufDat V c).A w = V c (Pipeline.arrRef spec0 w) := by dsimp only [shufDat]
theorem prepDat_A (c : Dev nD) (w : Fin cfg1.W) : (prepDat V c).A w = V c (Pipeline.arrRef spec1 w) := by dsimp only [prepDat]

/-- What each window's buffer holds after the body. -/
theorem shuf_after0 (c : Dev nD) (t : Fin cfg0.N) : (shufDat V c).after 0 t = blk0 V c 0 t := by dsimp only [shufDat]
theorem shuf_after1 (c : Dev nD) (t : Fin cfg0.N) : (shufDat V c).after 1 t = shufOut (blk0 V c 0 t) := by dsimp only [shufDat]
theorem prep_after0 (c : Dev nD) (t : Fin cfg1.N) : (prepDat V c).after 0 t = blk1 V c 0 t := by dsimp only [prepDat]
theorem prep_after1 (c : Dev nD) (t : Fin cfg1.N) : (prepDat V c).after 1 t = blk1 V c 1 t := by dsimp only [prepDat]
theorem prep_after2 (c : Dev nD) (t : Fin cfg1.N) : (prepDat V c).after 2 t = blk1 V c 2 t := by dsimp only [prepDat]
theorem prep_after3 (c : Dev nD) (t : Fin cfg1.N) : (prepDat V c).after 3 t = codeOut (blk1 V c 0 t) (blk1 V c 1 t) := by dsimp only [prepDat]
theorem prep_after4 (c : Dev nD) (t : Fin cfg1.N) : (prepDat V c).after 4 t = probOut (blk1 V c 0 t) (blk1 V c 2 t) := by dsimp only [prepDat]

/-- An input window's current buffer holds its block, fetched at this point or kept from an earlier one. -/
theorem shuf_before0 (c : Dev nD) (t : Fin cfg0.N) (d) : (shufDat V c).before 0 t d = blk0 V c 0 t :=
  ((shufDat V c).before_in_eq_fetched 0 rfl (fun _ => rfl) (fun _ _ _ => rfl)
    (fun t => by rw [shuf_after0]; unfold Dat.blockOf blk0; rw [shufDat_A]) t d).trans
    (by unfold Dat.fetched Dat.blockOf blk0; rw [shufDat_A]; try rfl)
theorem prep_before0 (c : Dev nD) (t : Fin cfg1.N) (d) : (prepDat V c).before 0 t d = blk1 V c 0 t :=
  ((prepDat V c).before_in_eq_fetched 0 rfl (fun _ => rfl) (fun _ _ _ => rfl)
    (fun t => by rw [prep_after0]; unfold Dat.blockOf blk1; rw [prepDat_A]) t d).trans
    (by unfold Dat.fetched Dat.blockOf blk1; rw [prepDat_A]; try rfl)
theorem prep_before1 (c : Dev nD) (t : Fin cfg1.N) (d) : (prepDat V c).before 1 t d = blk1 V c 1 t :=
  ((prepDat V c).before_in_eq_fetched 1 rfl (fun _ => rfl) (fun _ _ _ => rfl)
    (fun t => by rw [prep_after1]; unfold Dat.blockOf blk1; rw [prepDat_A]) t d).trans
    (by unfold Dat.fetched Dat.blockOf blk1; rw [prepDat_A]; try rfl)
theorem prep_before2 (c : Dev nD) (t : Fin cfg1.N) (d) : (prepDat V c).before 2 t d = blk1 V c 2 t :=
  ((prepDat V c).before_in_eq_fetched 2 rfl (fun _ => rfl) (fun _ _ _ => rfl)
    (fun t => by rw [prep_after2]; unfold Dat.blockOf blk1; rw [prepDat_A]) t d).trans
    (by unfold Dat.fetched Dat.blockOf blk1; rw [prepDat_A]; try rfl)

/-! ## The body obligations -/

/-- The shuffle's body at point `t`, from what the pipeline hands it to what it takes back. -/
theorem shuf_point (c : Dev nD) (t : Fin cfg0.N) :
    iprop((shufDat V c).Φ t.castSucc ∗ (shufDat V c).owesAt none t.castSucc
      ∗ (∃ d, owns (c : Thread nD τ) (st0_0 t) fullShare ((shufDat V c).before 0 t d))
      ∗ (∃ d, owns (c : Thread nD τ) (st0_1 t) fullShare ((shufDat V c).before 1 t d)))
    ⊢ wp frame (wpE (defs₀ (F := F)) Variants.none c none) Set.univ (bodyAt0 t) fun _ =>
      iprop((shufDat V c).Φ t.succ ∗ (shufDat V c).owesAt none t.succ
        ∗ owns (c : Thread nD τ) (st0_0 t) fullShare ((shufDat V c).after 0 t)
        ∗ owns (c : Thread nD τ) (st0_1 t) fullShare ((shufDat V c).after 1 t)) := by
  unfold bodyAt0
  simp only [shuf_before0]
  rw [show (shufDat V c).Φ t.succ = (shufDat V c).Φ t.castSucc from rfl,
    show (shufDat V c).owesAt none t.succ = (shufDat V c).owesAt none t.castSucc from rfl,
    shuf_after0, shuf_after1]
  iintro ⟨HΦ, Ho, ⟨%d0, H0⟩, ⟨%d1, H1⟩⟩
  iapply (shuffle_body c Set.univ (grid0.coords t) _ _ _ _ (blk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The preparation's body at point `t`. -/
theorem prep_point (c : Dev nD) (t : Fin cfg1.N) :
    iprop((prepDat V c).Φ t.castSucc ∗ (prepDat V c).owesAt none t.castSucc
      ∗ (∃ d, owns (c : Thread nD τ) (st1_0 t) fullShare ((prepDat V c).before 0 t d))
      ∗ (∃ d, owns (c : Thread nD τ) (st1_1 t) fullShare ((prepDat V c).before 1 t d))
      ∗ (∃ d, owns (c : Thread nD τ) (st1_2 t) fullShare ((prepDat V c).before 2 t d))
      ∗ (∃ d, owns (c : Thread nD τ) (st1_3 t) fullShare ((prepDat V c).before 3 t d))
      ∗ (∃ d, owns (c : Thread nD τ) (st1_4 t) fullShare ((prepDat V c).before 4 t d)))
    ⊢ wp frame (wpE (defs₀ (F := F)) Variants.none c none) Set.univ (bodyAt1 t) fun _ =>
      iprop((prepDat V c).Φ t.succ ∗ (prepDat V c).owesAt none t.succ
        ∗ owns (c : Thread nD τ) (st1_0 t) fullShare ((prepDat V c).after 0 t)
        ∗ owns (c : Thread nD τ) (st1_1 t) fullShare ((prepDat V c).after 1 t)
        ∗ owns (c : Thread nD τ) (st1_2 t) fullShare ((prepDat V c).after 2 t)
        ∗ owns (c : Thread nD τ) (st1_3 t) fullShare ((prepDat V c).after 3 t)
        ∗ owns (c : Thread nD τ) (st1_4 t) fullShare ((prepDat V c).after 4 t)) := by
  unfold bodyAt1
  simp only [prep_before0, prep_before1, prep_before2]
  rw [show (prepDat V c).Φ t.succ = (prepDat V c).Φ t.castSucc from rfl,
    show (prepDat V c).owesAt none t.succ = (prepDat V c).owesAt none t.castSucc from rfl,
    prep_after0, prep_after1, prep_after2, prep_after3, prep_after4]
  iintro ⟨HΦ, Ho, ⟨%d0, H0⟩, ⟨%d1, H1⟩, ⟨%d2, H2⟩, ⟨%d3, H3⟩, ⟨%d4, H4⟩⟩
  iapply (prep_body c Set.univ (grid1.coords t) _ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's rows at the slots of a point are the bodies there. -/
theorem row0 (t : Fin cfg0.N) : defs₀ (F := F) .tc cfg0.body (cfg0.bodyArgs t (cfg0.slots t)) = bodyAt0 t := rfl
theorem row1 (t : Fin cfg1.N) : defs₀ (F := F) .tc cfg1.body (cfg1.bodyArgs t (cfg1.slots t)) = bodyAt1 t := rfl

/-- The shuffle's body meets its obligation at every point, -/
theorem shuf_obligation (c : Dev nD) : BodyObligation (shufDat (F := F) V c) (defs₀ (F := F)) Variants.none none Set.univ := fun t => by
  rw [bigSep_W0, bigSep_W0, row0]
  exact triple_restated (shuf_point V c t) rfl .rfl fun _ => .rfl
/-- and the preparation's. -/
theorem prep_obligation (c : Dev nD) : BodyObligation (prepDat (F := F) V c) (defs₀ (F := F)) Variants.none none Set.univ := fun t => by
  rw [bigSep_W1, bigSep_W1, row1]
  exact triple_restated (prep_point V c t) rfl .rfl fun _ => .rfl

end Data

end Cert.Proof.Lsh

end
-- ==== Proof.Host.lean ====
/- @main as its stretches: the host operations around the three calls, and what every buffer holds at each boundary. -/
module

public import proofs.«01_k».proof.Proof.Blocks

@[expose] public section

set_option maxRecDepth 16384

noncomputable section

namespace Cert.Proof.Lsh

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The host stretches -/

/-- The host operations before the shuffle: the activations and the table laid out flat. -/
abbrev opsA : List (HloOp τ sig (Elt F)) :=
  [ StableHlo.reshape main_arg0 main_v0 (rfl : (.f32 : EltTy) = .f32) shapeCasts_S2x2048x2048_S4096x2048,
    StableHlo.unary main_arg1 main_v1 ((transpose S128x16x65536 [0, 2, 1] · transposes_S128x65536x16_S128x16x65536_0_2_1) : (⟨S128x65536x16, .f32⟩ : BufTy).Contents (Elt F) → (⟨S128x16x65536, .f32⟩ : BufTy).Contents (Elt F)),
    StableHlo.reshape main_v1 main_v2 (rfl : (.f32 : EltTy) = .f32) shapeCasts_S128x16x65536_S2048x65536 ]

/-- `opsA` touch TensorCore buffers only. -/
theorem opsA_sub : (opsA : List (HloOp τ sig (Elt F))).Forall fun op => op.bufs ⊆ StableHlo.tcRefs τ sig :=
  ⟨StableHlo.reshape_bufs_sub .., StableHlo.unary_bufs_sub .., StableHlo.reshape_bufs_sub ..⟩

/-- `opsA` allocate nothing. -/
theorem opsA_fresh : (opsA : List (HloOp τ sig (Elt F))).Forall fun op => op.fresh = ∅ := by
  simp only [List.Forall]; repeat' constructor

/-- The buffers `opsA` write. -/
abbrev opsA_W : List (Ref sig .tc) := [main_v0, main_v1, main_v2]

/-- They write no others. -/
theorem opsA_writes : (opsA : List (HloOp τ sig (Elt F))).Forall fun op => op.writes ⊆ (opsA_W.map (Proc.devRef (τ := τ) .tc)).toFinset :=
  StableHlo.forall_writes_sub_of_map rfl

/-- The host operations between the shuffle and the preparation: the shuffled table as rows of sixteen, and the two weight matrices. -/
abbrev opsB : List (HloOp τ sig (Elt F)) :=
  [ StableHlo.reshape main_v3 main_v4 (rfl : (.f32 : EltTy) = .f32) shapeCasts_S1048576x128_S8388608x16,
    StableHlo.nullary main_v5 (iotaInDim S2048x128 32 0),
    StableHlo.nullary main_v6 (iotaInDim S2048x128 32 1),
    StableHlo.nullary main_c (constantI S_ 32 4#32),
    StableHlo.unary main_c main_v7 (broadcastInDim S2048x128 ![] bcast_S_S2048x128 : (⟨S_, .i32⟩ : BufTy).Contents (Elt F) → (⟨S2048x128, .i32⟩ : BufTy).Contents (Elt F)),
    StableHlo.binary main_v5 main_v7 main_v8 (Host.shrsi : (⟨S2048x128, .i32⟩ : BufTy).Contents (Elt F) → (⟨S2048x128, .i32⟩ : BufTy).Contents (Elt F) → (⟨S2048x128, .i32⟩ : BufTy).Contents (Elt F)),
    StableHlo.binary main_v8 main_v6 main_v9 (cmpi .eq : (⟨S2048x128, .i32⟩ : BufTy).Contents (Elt F) → (⟨S2048x128, .i32⟩ : BufTy).Contents (Elt F) → (⟨S2048x128, .i1⟩ : BufTy).Contents (Elt F)),
    StableHlo.nullary main_c_0 (constantI S_ 32 15#32),
    StableHlo.unary main_c_0 main_v10 (broadcastInDim S2048x128 ![] bcast_S_S2048x128 : (⟨S_, .i32⟩ : BufTy).Contents (Elt F) → (⟨S2048x128, .i32⟩ : BufTy).Contents (Elt F)),
    StableHlo.binary main_v5 main_v10 main_v11 (andi : (⟨S2048x128, .i32⟩ : BufTy).Contents (Elt F) → (⟨S2048x128, .i32⟩ : BufTy).Contents (Elt F) → (⟨S2048x128, .i32⟩ : BufTy).Contents (Elt F)),
    StableHlo.nullary main_c_1 (constantI S_ 32 15#32),
    StableHlo.unary main_c_1 main_v12 (broadcastInDim S2048x128 ![] bcast_S_S2048x128 : (⟨S_, .i32⟩ : BufTy).Contents (Elt F) → (⟨S2048x128, .i32⟩ : BufTy).Contents (Elt F)),
    StableHlo.binary main_v12 main_v11 main_v13 (subi : (⟨S2048x128, .i32⟩ : BufTy).Contents (Elt F) → (⟨S2048x128, .i32⟩ : BufTy).Contents (Elt F) → (⟨S2048x128, .i32⟩ : BufTy).Contents (Elt F)),
    StableHlo.nullary main_c_2 (constantI S_ 32 1#32),
    StableHlo.unary main_c_2 main_v14 (broadcastInDim S2048x128 ![] bcast_S_S2048x128 : (⟨S_, .i32⟩ : BufTy).Contents (Elt F) → (⟨S2048x128, .i32⟩ : BufTy).Contents (Elt F)),
    StableHlo.binary main_v14 main_v13 main_v15 (Host.shli : (⟨S2048x128, .i32⟩ : BufTy).Contents (Elt F) → (⟨S2048x128, .i32⟩ : BufTy).Contents (Elt F) → (⟨S2048x128, .i32⟩ : BufTy).Contents (Elt F)),
    StableHlo.nullary main_c_3 (constantI S_ 32 0#32),
    StableHlo.TRef.unary (.of main_c_3 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S2048x128, .i32⟩) (broadcastInDim S2048x128 ![] bcast_S_S2048x128),
    StableHlo.TRef.ternary (.of main_v9 : StableHlo.TRef sig ⟨S2048x128, .i1⟩) (.of main_v15 : StableHlo.TRef sig ⟨S2048x128, .i32⟩) (.of main_call0_v1 : StableHlo.TRef sig ⟨S2048x128, .i32⟩) (.of main_v16 : StableHlo.TRef sig ⟨S2048x128, .i32⟩) select,
    StableHlo.unary main_v16 main_v17 (sitofp .f32 : (⟨S2048x128, .i32⟩ : BufTy).Contents (Elt F) → (⟨S2048x128, .f32⟩ : BufTy).Contents (Elt F)),
    StableHlo.nullary main_c_4 (constantI S_ 32 1#32),
    StableHlo.nullary main_c_5 (constantI S_ 32 0#32),
    StableHlo.TRef.unary (.of main_c_4 : StableHlo.TRef sig ⟨S_, .i32⟩) (.of main_call1_v0 : StableHlo.TRef sig ⟨S2048x128, .i32⟩) (broadcastInDim S2048x128 ![] bcast_S_S2048x128),
    StableHlo.TRef.unary (.of main_c_5 : StableHlo.TRef sig ⟨S_, .i32⟩) (.of main_call1_v1 : StableHlo.TRef sig ⟨S2048x128, .i32⟩) (broadcastInDim S2048x128 ![] bcast_S_S2048x128),
    StableHlo.TRef.ternary (.of main_v9 : StableHlo.TRef sig ⟨S2048x128, .i1⟩) (.of main_call1_v0 : StableHlo.TRef sig ⟨S2048x128, .i32⟩) (.of main_call1_v1 : StableHlo.TRef sig ⟨S2048x128, .i32⟩) (.of main_v18 : StableHlo.TRef sig ⟨S2048x128, .i32⟩) select,
    StableHlo.unary main_v18 main_v19 (sitofp .f32 : (⟨S2048x128, .i32⟩ : BufTy).Contents (Elt F) → (⟨S2048x128, .f32⟩ : BufTy).Contents (Elt F)) ]

/-- `opsB` touch TensorCore buffers only. -/
theorem opsB_sub : (opsB : List (HloOp τ sig (Elt F))).Forall fun op => op.bufs ⊆ StableHlo.tcRefs τ sig :=
  ⟨StableHlo.reshape_bufs_sub .., StableHlo.nullary_bufs_sub .., StableHlo.nullary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.nullary_bufs_sub .., StableHlo.unary_bufs_sub .., StableHlo.unary_bufs_sub .., StableHlo.ternary_bufs_sub .., StableHlo.unary_bufs_sub ..⟩

/-- `opsB` allocate nothing. -/
theorem opsB_fresh : (opsB : List (HloOp τ sig (Elt F))).Forall fun op => op.fresh = ∅ := by
  simp only [List.Forall]; repeat' constructor

/-- The buffers `opsB` write. -/
abbrev opsB_W : List (Ref sig .tc) := [main_v4, main_v5, main_v6, main_c, main_v7, main_v8, main_v9, main_c_0, main_v10, main_v11, main_c_1, main_v12, main_v13, main_c_2, main_v14, main_v15, main_c_3, main_call0_v0, main_call0_v1, main_v16, main_v17, main_c_4, main_c_5, main_call1_v0, main_call1_v1, main_v18, main_v19]

/-- They write no others. -/
theorem opsB_writes : (opsB : List (HloOp τ sig (Elt F))).Forall fun op => op.writes ⊆ (opsB_W.map (Proc.devRef (τ := τ) .tc)).toFinset :=
  StableHlo.forall_writes_sub_of_map rfl

/-- The host operation after the gather: the result in its shape. -/
abbrev opsC : List (HloOp τ sig (Elt F)) :=
  [ StableHlo.reshape main_v21 main_v22 (rfl : (.f32 : EltTy) = .f32) shapeCasts_S524288x16_S2x2048x2048 ]

/-- `opsC` touch TensorCore buffers only. -/
theorem opsC_sub : (opsC : List (HloOp τ sig (Elt F))).Forall fun op => op.bufs ⊆ StableHlo.tcRefs τ sig :=
  StableHlo.reshape_bufs_sub ..

/-- `opsC` allocate nothing. -/
theorem opsC_fresh : (opsC : List (HloOp τ sig (Elt F))).Forall fun op => op.fresh = ∅ := by
  simp only [List.Forall]; repeat' constructor

/-- The buffers `opsC` write. -/
abbrev opsC_W : List (Ref sig .tc) := [main_v22]

/-- They write no others. -/
theorem opsC_writes : (opsC : List (HloOp τ sig (Elt F))).Forall fun op => op.writes ⊆ (opsC_W.map (Proc.devRef (τ := τ) .tc)).toFinset :=
  StableHlo.forall_writes_sub_of_map rfl

/-- @main up to the SparseCore call. -/
abbrev mainPre : Prog (TpuEff nD τ sig (Elt F) (ΛP (F := F)) .tc) PUnit :=
  Pipeline.chain [StableHlo.seq opsA, Prog.lift (.customCall (Pipeline.entry 0) ()), StableHlo.seq opsB,
    Prog.lift (.customCall (Pipeline.entry 1) ())]

/-- @main is that prefix lifted, the SparseCore call, and the last host operation. -/
theorem main_eq (d : Dev nD) :
    main (F := F) d = (SparseCore.liftProg mainPre >>= fun _ => (K (F := F)).run d 0 >>= fun _ => StableHlo.seq opsC) := by
  chain_rfl

/-! ## What the buffers hold at each boundary -/

variable (W0 : Dev nD → Valuation τ sig (Elt F))

/-- Before the shuffle. -/
abbrev W1 : Dev nD → Valuation τ sig (Elt F) := fun c => StableHlo.after opsA (W0 c)
/-- The same at the TensorCore's references. -/
abbrev V1 : (c : Dev nD) → (b : Ref sig .tc) → Buf (Elt F) ((c : Thread nD τ).loc b) := fun c b => W1 W0 c b
/-- After the shuffle: its output array at what the pipeline leaves, every other buffer as before. -/
def W2 (c : Dev nD) : Valuation τ sig (Elt F) :=
  Pipeline.withArrays spec0 c (W1 W0 c) fun w => (shufDat (V1 W0) c).arrAt w cfg0.N
abbrev V2 : (c : Dev nD) → (b : Ref sig .tc) → Buf (Elt F) ((c : Thread nD τ).loc b) := fun c b => W2 W0 c b
/-- Before the preparation. -/
abbrev W3 : Dev nD → Valuation τ sig (Elt F) := fun c => StableHlo.after opsB (W2 W0 c)
abbrev V3 : (c : Dev nD) → (b : Ref sig .tc) → Buf (Elt F) ((c : Thread nD τ).loc b) := fun c b => W3 W0 c b
/-- After the preparation: what the SparseCore call is entered from. -/
def W4 (c : Dev nD) : Valuation τ sig (Elt F) :=
  Pipeline.withArrays spec1 c (W3 W0 c) fun w => (prepDat (V3 W0) c).arrAt w cfg1.N
abbrev V4 : (c : Dev nD) → (b : Ref sig .tc) → Buf (Elt F) ((c : Thread nD τ).loc b) := fun c b => W4 W0 c b

theorem W2_arr (c : Dev nD) (w : Fin cfg0.W) :
    W2 W0 c (Proc.devRef .tc (Pipeline.arrRef spec0 w)) = (shufDat (V1 W0) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 W0 c (Proc.devRef .tc b) = W1 W0 c (Proc.devRef .tc b) := by
  unfold W2; exact Pipeline.withArrays_of_ne spec0 c _ _ b hb
theorem W4_arr (c : Dev nD) (w : Fin cfg1.W) :
    W4 W0 c (Proc.devRef .tc (Pipeline.arrRef spec1 w)) = (prepDat (V3 W0) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 W0 c (Proc.devRef .tc b) = W3 W0 c (Proc.devRef .tc b) := by
  unfold W4; exact Pipeline.withArrays_of_ne spec1 c _ _ b hb
/-- The shuffle changes no buffer but its output array. -/
theorem W2_of (c : Dev nD) (r : Ref sig .tc) (h : ∀ w : Fin cfg0.W, Pipeline.arrRef spec0 w = r → (cfg0.win w).isOut = false) :
    W2 W0 c (Proc.devRef .tc r) = W1 W0 c (Proc.devRef .tc r) := by
  by_cases hw : ∃ w : Fin cfg0.W, Pipeline.arrRef spec0 w = r
  · obtain ⟨w, rfl⟩ := hw
    exact (W2_arr W0 c w).trans (((shufDat (V1 W0) c).arrAt_in w (h w rfl) _).trans (shufDat_A (V1 W0) c w))
  · exact W2_of_ne W0 c r fun w e => hw ⟨w, e⟩
/-- The preparation changes no buffer but its two output arrays. -/
theorem W4_of (c : Dev nD) (r : Ref sig .tc) (h : ∀ w : Fin cfg1.W, Pipeline.arrRef spec1 w = r → (cfg1.win w).isOut = false) :
    W4 W0 c (Proc.devRef .tc r) = W3 W0 c (Proc.devRef .tc r) := by
  by_cases hw : ∃ w : Fin cfg1.W, Pipeline.arrRef spec1 w = r
  · obtain ⟨w, rfl⟩ := hw
    exact (W4_arr W0 c w).trans (((prepDat (V3 W0) c).arrAt_in w (h w rfl) _).trans (prepDat_A (V3 W0) c w))
  · exact W4_of_ne W0 c r fun w e => hw ⟨w, e⟩
/-- A reference the first stretch does not write. -/
theorem W1_of (c : Dev nD) (r : Ref sig .tc) (h : r ∉ opsA_W) : W1 W0 c (Proc.devRef .tc r) = W0 c (Proc.devRef .tc r) :=
  StableHlo.after_of_writes_sub opsA _ opsA_writes h
/-- A reference the second stretch does not write. -/
theorem W3_of (c : Dev nD) (r : Ref sig .tc) (h : r ∉ opsB_W) : W3 W0 c (Proc.devRef .tc r) = W2 W0 c (Proc.devRef .tc r) :=
  StableHlo.after_of_writes_sub opsB _ opsB_writes h

/-- An argument that no stretch writes and no region changes still holds what it held at launch. -/
theorem W4_arg (c : Dev nD) (r : Ref sig .tc) (ha : r ∉ opsA_W) (h0 : ∀ w : Fin cfg0.W, Pipeline.arrRef spec0 w = r → (cfg0.win w).isOut = false)
    (hb : r ∉ opsB_W) (h1 : ∀ w : Fin cfg1.W, Pipeline.arrRef spec1 w = r → (cfg1.win w).isOut = false) :
    W4 W0 c (Proc.devRef .tc r) = W0 c (Proc.devRef .tc r) :=
  (W4_of W0 c r h1).trans ((W3_of W0 c r hb).trans ((W2_of W0 c r h0).trans (W1_of W0 c r ha)))

/-! ## The two regions as segments of @main -/

abbrev adm : (p : Fin 2) → (pcfgs (F := F) p).Adm := fun p => (cfgs p).toPCfg_adm
/-- Each pipeline's proof data at its region's entry contents. -/
def pdats : (p : Fin 2) → (c : Dev nD) → Dat τ (Elt F) (HIx 1) ℕ UU ℕ (Pipeline.pin (pcfgs (F := F)) adm p) c
  | ⟨0, _⟩ => fun c => shufDat (V1 W0) c
  | ⟨1, _⟩ => fun c => prepDat (V3 W0) c

theorem hF0 (c : Dev nD) (w : Fin cfg0.W) : (shufDat (V1 W0) c).arrAt w cfg0.N = V2 W0 c (Pipeline.arrRef spec0 w) :=
  (W2_arr W0 c w).symm
theorem hrest0 (c : Dev nD) : ∀ b, b ∉ Finset.univ.image (Pipeline.arrRef spec0) → V2 W0 c b = V1 W0 c b :=
  fun b hb => W2_of_ne W0 c b fun w e => hb (Finset.mem_image.mpr ⟨w, Finset.mem_univ _, e⟩)
theorem hF1 (c : Dev nD) (w : Fin cfg1.W) : (prepDat (V3 W0) c).arrAt w cfg1.N = V4 W0 c (Pipeline.arrRef spec1 w) :=
  (W4_arr W0 c w).symm
theorem hrest1 (c : Dev nD) : ∀ b, b ∉ Finset.univ.image (Pipeline.arrRef spec1) → V4 W0 c b = V3 W0 c b :=
  fun b hb => W4_of_ne W0 c b fun w e => hb (Finset.mem_image.mpr ⟨w, Finset.mem_univ _, e⟩)

/-- What rides beside the buffers through every stretch: the generator register and what the TensorCore owes. -/
abbrev RR (c : Dev nD) : sProp (MM F) := iprop((∃ r, prngReg c r) ∗ owesLow (F := F) c)

/-- Nothing is owed at the pipelines' index. -/
theorem Otc_none (c : Dev nD) : ∀ g, (K (F := F)).Otc c 0 g none = 0 := fun g => by
  by_contra h
  have h1 := (K (F := F)).lev_of_Otc_pos (Nat.pos_of_ne_zero h)
  have h2 : (K (F := F)).lev g none = 0 := rfl
  omega

/-- Recorded pairs at level zero or of the pipeline's staging cells (whose level is zero) are pairs at level zero. -/
theorem below_of_bound {cfg : Pipeline.Cfg sig Λ₀} (c : Dev nD) {W : Waits sig (HIx 1)} (h : ∀ p ∈ W, p ∈ lowPairs (F := F) c ∪ cfg.waitPairs none) :
    (K (F := F)).WBelow (T c) W 0 := by
  intro p hp
  rcases h p hp with h | ⟨w, s, rfl⟩
  · exact h
  · exact le_of_eq rfl

set_option backward.isDefEq.respectTransparency.types false in
/-- The shuffle as a segment: entered from every buffer at `W1`, left at `W2`. -/
def reg0 : Pipeline.RegionSeg (pcfgs (F := F)) adm (pdats W0) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (shuf_obligation (V1 W0) c).loose
  hwaits c := Pipeline.cellsWaits_intro _ _ _ _ c fun w s t =>
    (K (F := F)).mayWait_none _ (Otc_none (F := F) c)
  pre c := iprop(StableHlo.held (c : Thread nD τ) (Pipeline.ucRefs τ sig) (W1 W0 c) ∗ RR c)
  post c := iprop(StableHlo.held (c : Thread nD τ) (Pipeline.ucRefs τ sig) (W2 W0 c) ∗ RR c)
  X c := iprop(∃ r, prngReg c r)
  Y c := iprop(∃ r, prngReg c r)
  Z c := Pipeline.unscopedRest (Ix := HIx 1) (Name := ℕ) (U := UU) (Lvl := ℕ) spec0 c (V1 W0 c)
  hentry c := by
    rw [Pipeline.ownSems0_none]
    have hsplit := Pipeline.arrays_of_unscopedBufs (p := 0) (pcfgs (F := F)) adm (pdats W0) launch0.win launch0.arr_whole c
      ((pdats W0 0 c).share_full fun _ => rfl) (V1 W0 c) (shufDat_A (V1 W0) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p hp)
      iexact HO
    isplitl [Hp]; · iexact Hp
    iexact Hrest
  hin c := by
    rw [show (pdats W0 0 c).Φ 0 = iprop(Pipeline.scopedRest spec0 c ∗ ∃ r, prngReg c r) from rfl]
    iintro ⟨Hp, -, Hr⟩
    isplitl [Hr]; · iexact Hr
    iexact Hp
  hout c := by
    rw [Pipeline.ownSems0_none, show (pdats W0 0 c).Φ (Fin.last _) = iprop(Pipeline.scopedRest spec0 c ∗ ∃ r, prngReg c r) from rfl]
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats W0) ((pdats W0 0 c).share_full fun _ => rfl)
      (V1 W0 c) (V2 W0 c) ((pdats W0 0 c).arrAt · cfg0.N) (hF0 W0 c) (hrest0 W0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; exact below_of_bound (cfg := cfg0) c fun p hp => hW hp
    iexact HO

set_option backward.isDefEq.respectTransparency.types false in
/-- The preparation as a segment: entered from every buffer at `W3`, left at `W4`. -/
def reg1 : Pipeline.RegionSeg (pcfgs (F := F)) adm (pdats W0) none defs₀ 𝒱₀ (K (F := F)).L (K (F := F)).lev 1 where
  win := launch1.win.to₀
  block_pos := launch1.block_pos
  stage_whole := launch1.stage_whole
  K := PEmpty
  osem k := k.elim
  ho := Pipeline.OwnSemFacts.none _
  hbody c := (prep_obligation (V3 W0) c).loose
  hwaits c := Pipeline.cellsWaits_intro _ _ _ _ c fun w s t =>
    (K (F := F)).mayWait_none _ (Otc_none (F := F) c)
  pre c := iprop(StableHlo.held (c : Thread nD τ) (Pipeline.ucRefs τ sig) (W3 W0 c) ∗ RR c)
  post c := iprop(StableHlo.held (c : Thread nD τ) (Pipeline.ucRefs τ sig) (W4 W0 c) ∗ RR c)
  X c := iprop(∃ r, prngReg c r)
  Y c := iprop(∃ r, prngReg c r)
  Z c := Pipeline.unscopedRest (Ix := HIx 1) (Name := ℕ) (U := UU) (Lvl := ℕ) spec1 c (V3 W0 c)
  hentry c := by
    rw [Pipeline.ownSems0_none]
    have hsplit := Pipeline.arrays_of_unscopedBufs (p := 1) (pcfgs (F := F)) adm (pdats W0) launch1.win launch1.arr_whole c
      ((pdats W0 1 c).share_full fun _ => rfl) (V3 W0 c) (prepDat_A (V3 W0) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p hp)
      iexact HO
    isplitl [Hp]; · iexact Hp
    iexact Hrest
  hin c := by
    rw [show (pdats W0 1 c).Φ 0 = iprop(Pipeline.scopedRest spec1 c ∗ ∃ r, prngReg c r) from rfl]
    iintro ⟨Hp, -, Hr⟩
    isplitl [Hr]; · iexact Hr
    iexact Hp
  hout c := by
    rw [Pipeline.ownSems0_none, show (pdats W0 1 c).Φ (Fin.last _) = iprop(Pipeline.scopedRest spec1 c ∗ ∃ r, prngReg c r) from rfl]
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch1.win launch1.arr_whole c (pdats W0) ((pdats W0 1 c).share_full fun _ => rfl)
      (V3 W0 c) (V4 W0 c) ((pdats W0 1 c).arrAt · cfg1.N) (hF1 W0 c) (hrest1 W0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; exact below_of_bound (cfg := cfg1) c fun p hp => hW hp
    iexact HO

/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UU) (pcfgs (F := F)) defs₀ 𝒱₀ (K (F := F)).L (K (F := F)).lev :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR

/-- @main up to the SparseCore call, as segments. -/
def segs : List (Pipeline.Seg (pcfgs (F := F)) adm (pdats W0) none defs₀ 𝒱₀ (K (F := F)).L (K (F := F)).lev) :=
  [.host (hseg opsA opsA_sub opsA_fresh W0), .region (reg0 W0), .host (hseg opsB opsB_sub opsB_fresh (W2 W0)), .region (reg1 W0)]

/-- The TensorCore runs its part before the SparseCore call: every buffer goes from the launch contents to `W4`. -/
theorem wp_mainPre (c : Dev nD) :
    iprop((boundary (T c : Thread nD τ) ∗ StableHlo.held (T c : Thread nD τ) (Pipeline.ucRefs τ sig) (W0 c) ∗ RR c)
        ∗ levAts (K (F := F)).L (K (F := F)).lev ∗ Pipeline.ghostOn (pcfgs (F := F)) adm EP Finset.univ c)
      ⊢ wp frame (wpE (D (F := F)) 𝒱 (T c : Thread nD τ) none) Set.univ (mainPre (F := F)) fun _ =>
        iprop(boundary (T c : Thread nD τ) ∗ StableHlo.held (T c : Thread nD τ) (Pipeline.ucRefs τ sig) (W4 W0 c) ∗ RR c) := by
  have h := Pipeline.wp_segs (pcfgs (F := F)) adm (pdats W0) none cellOf_inj EP defs₀ 𝒱₀ (K (F := F)).L (K (F := F)).lev c
    (Q := fun _ => iprop(boundary (T c : Thread nD τ) ∗ StableHlo.held (T c : Thread nD τ) (Pipeline.ucRefs τ sig) (W4 W0 c) ∗ RR c))
    (segs W0) Finset.univ (fun c => iprop(StableHlo.held (T c : Thread nD τ) (Pipeline.ucRefs τ sig) (W0 c) ∗ RR c))
    (fun c => iprop(StableHlo.held (T c : Thread nD τ) (Pipeline.ucRefs τ sig) (W4 W0 c) ∗ RR c)) (show [(0 : Fin 2), 1].Nodup by decide) (fun p _ => Finset.mem_univ p)
    ⟨fun _ => .rfl, fun _ => .rfl, fun _ => .rfl, fun _ => .rfl, fun _ => .rfl⟩
  rw [show Pipeline.Seg.run (segs W0) = mainPre (F := F) from by chain_rfl] at h
  iintro ⟨⟨Hbd, Hh⟩, Hl, Hg⟩
  iapply h
  isplitr
  · iintro H; iexact H
  isplitl [Hbd]; · iexact Hbd
  isplitl [Hh]; · iexact Hh
  isplitl [Hl] <;> iassumption

end Cert.Proof.Lsh

end
-- ==== Proof.Body.lean ====
/- The SparseCore body as eight batches of one shape: copy in, gather, scale, copy out. -/
module

public import proofs.«01_k».proof.Proof.Host

@[expose] public section

set_option maxRecDepth 65536

noncomputable section

namespace Cert.Proof.Lsh

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The programs of the subcore at grid point `i`. -/
abbrev TileProg (F : FTy → Type) (i : grid2.Coords) (α : Type) : Type 1 :=
  Prog (TpuEff nD τ sig (Elt F) Λ₀ (.scVector ((i 0).castLE hcore2) ((i 1).castLE hsub2))) α

/-- Row `g` of a 16-row buffer of indices lies inside it. -/
theorem inb_idx (g : Fin 16) : ∀ a, (![g.val, 0] : Fin 2 → Nat) a + S1x128.size a ≤ S16x128.size a := by
  revert g; decide

/-- The `g`-th 128 rows of the gathered block lie inside it. -/
theorem inb_rows (g : Fin 16) : ∀ a, (![128 * g.val, 0] : Fin 2 → Nat) a + S128x16.size a ≤ S2048x16.size a := by
  revert g; decide

/-- One entry of sixteen is a block of them. -/
theorem slices_lane (j : Fin 16) : S16.Slices ![j.val] S1 := by
  revert j; decide

section Pieces

variable (i : grid2.Coords)
  (arg2 : Memref sig .scVector .hbm S8388608x16 .f32) (arg3 : Memref sig .scVector .hbm S4096x128 .i32)
  (arg4 : Memref sig .scVector .hbm S4096x128 .f32) (arg5 : Memref sig .scVector .hbm S524288x16 .f32)
  (arg6 : Memref sig .scVector .vmem S16x128 .i32) (harg6 : arg6.IsWhole)
  (arg7 : Memref sig .scVector .vmem S16x128 .f32) (harg7 : arg7.IsWhole)
  (arg8 : Memref sig .scVector .vmem S2048x16 .f32) (harg8 : arg8.IsWhole)
  (arg9 s0 s1 s2 : DmaSems sig S_) (n : Fin 8)

/-- The 16 rows of codes that batch `n` reads. -/
abbrev codeRows : Memref sig .scVector .hbm S16x128 .i32 :=
  arg3.slice (Rect.unit (s := S4096x128) (k2_off1 i (BitVec.ofNat 32 (16 * n.val))) S16x128.size (k2_off1_inb i n)) (fun _ => rfl)

/-- The 16 rows of probabilities that batch `n` reads. -/
abbrev probRows : Memref sig .scVector .hbm S16x128 .f32 :=
  arg4.slice (Rect.unit (s := S4096x128) (k2_off1 i (BitVec.ofNat 32 (16 * n.val))) S16x128.size (k2_off1_inb i n)) (fun _ => rfl)

/-- The 2048 result rows that batch `n` writes. -/
abbrev outRows : Memref sig .scVector .hbm S2048x16 .f32 :=
  arg5.slice (Rect.unit (s := S524288x16) (k2_off4 i (BitVec.ofNat 32 (16 * n.val))) S2048x16.size (k2_off4_inb i n)) (fun _ => rfl)

/-- The table, as a gather names it. -/
abbrev tabAll : Memref sig .scVector .hbm S8388608x16 .f32 :=
  arg2.slice (Rect.unit (s := S8388608x16) ![0, 0] S8388608x16.size inb_S8388608x16_S8388608x16_0_0) (fun _ => rfl)

/-- The `g`-th row of the indices, as a list of 128. -/
abbrev idxRow (g : Fin 16) : Memref sig .scVector .vmem S128 .i32 :=
  (arg6.slice (Rect.unit (s := S16x128) ![g.val, 0] S1x128.size (inb_idx g)) (fun _ => rfl)).squeeze S128 squeezes_S1x128_S128

/-- The `g`-th 128 rows of the gathered block. -/
abbrev rowsAt (g : Fin 16) : Memref sig .scVector .vmem S128x16 .f32 :=
  arg8.slice (Rect.unit (s := S2048x16) ![128 * g.val, 0] S128x16.size (inb_rows g)) (fun _ => rfl)

/-- Bring batch `n`'s codes in. -/
def copyCodes : TileProg F i PUnit := do
  Prog.lift (.enqueueDma (codeRows i arg3 n) (.here arg6) (.dma s0.sem) (View.wordExact_bits rfl) harg6.wordExact ⟨Or.inl rfl, trivial⟩)
  Prog.lift (.waitDma2 s0.sem (codeRows i arg3 n) arg6 (View.wordExact_bits rfl) harg6.wordExact)

/-- Bring batch `n`'s probabilities in. -/
def copyProbs : TileProg F i PUnit := do
  Prog.lift (.enqueueDma (probRows i arg4 n) (.here arg7) (.dma s1.sem) (View.wordExact_bits rfl) harg7.wordExact ⟨Or.inl rfl, trivial⟩)
  Prog.lift (.waitDma2 s1.sem (probRows i arg4 n) arg7 (View.wordExact_bits rfl) harg7.wordExact)

/-- Start the gather of 128 table rows. -/
def issue (g : Fin 16) : TileProg F i PUnit :=
  SparseCore.enqueueIndirectGather rfl (tabAll arg2) (rowsAt arg8 g) gathers_S8388608x16_S128x16 (idxRow arg6 g) rfl arg9.sem (View.wordExact_bits rfl) rfl (Or.inl rfl)

/-- Wait for 128 table rows. -/
def await (g : Fin 16) : TileProg F i PUnit :=
  SparseCore.waitIndirectGather arg9.sem (tabAll arg2) (rowsAt arg8 g) (View.wordExact_bits rfl) (View.wordExact_bits rfl)

/-- A step for each of a list, in order. -/
def each {α : Type} (f : α → TileProg F i PUnit) : List α → TileProg F i PUnit
  | [] => pure ⟨⟩
  | a :: l => f a >>= fun _ => each f l

/-- The scaled row: the row times entry `j` of the sixteen probabilities. -/
def scaleRow (j : Fin 16) (p r : Vec F S1x16 .f32) : FVec F S1x16 .f32 :=
  shapeCast S1x16 (mulf (shapeCast S16 r shapeCasts_S1x16_S16)
    (broadcast S16 (extractAt ![0] (extractStridedSlice S1 ![j.val] (shapeCast S16 p shapeCasts_S1x16_S16 : FVec F S16 .f32) (slices_lane j)) inpos_S1_p0))) shapeCasts_S16_S1x16

/-- Scale row `16 t + j` of the gathered block. -/
def scaleLane (t : Fin k2_t1_loop.trips) (p : Vec F S1x16 .f32) (j : Fin 16) : TileProg F i PUnit := do
  let r ← Prog.lift (.load arg8 (Rect.unit (s := S2048x16) (k2_off3 t (BitVec.ofNat 32 j.val)) S1x16.size (k2_off3_inb t j)).toLoadRect (View.loadsAt_vmem h_S1x16))
  let _ ← Prog.lift (.load arg8 (Rect.unit (s := S2048x16) (k2_off3 t (BitVec.ofNat 32 j.val)) S1x16.size (k2_off3_inb t j)).toLoadRect (View.loadsAt_vmem h_S1x16))
  Prog.lift (.store arg8 (Rect.unit (s := S2048x16) (k2_off3 t (BitVec.ofNat 32 j.val)) S1x16.size (k2_off3_inb t j)) (scaleRow j p r) Finset.univ (View.stores_vmem_bits_univ h_S1x16 rfl) (.inl rfl))

/-- The sixteen lanes. -/
abbrev lanes : List (Fin 16) := [0, 1, 2, 3, 4, 5, 6, 7, 8, 9, 10, 11, 12, 13, 14, 15]

/-- One trip of the scaling loop: sixteen probabilities, sixteen rows. -/
def scaleTrip (t : Fin k2_t1_loop.trips) (_ : BitVec 32) : TileProg F i (BitVec 32) := do
  let p ← Prog.lift (.load arg7 (Rect.unit (s := S16x128) (k2_off2 t) S1x16.size (k2_off2_inb t)).toLoadRect (View.loadsAt_vmem h_S1x16))
  each i (scaleLane i arg8 t p) lanes
  pure 0#32

/-- The scaling loop. -/
def scale : TileProg F i (BitVec 32) := Scf.Loop.for k2_t1_loop k2_t1_ok 0#32 (scaleTrip i arg7 arg8)

/-- Send batch `n`'s rows out. -/
def copyOut : TileProg F i PUnit := do
  Prog.lift (.enqueueDma arg8 (.here (outRows i arg5 n)) (.dma s2.sem) harg8.wordExact (View.wordExact_bits rfl) ⟨Or.inl rfl, trivial⟩)
  Prog.lift (.waitDma2 s2.sem arg8 (outRows i arg5 n) harg8.wordExact (View.wordExact_bits rfl))

/-- One batch. -/
def batch : TileProg F i PUnit := do
  copyCodes i arg3 arg6 harg6 s0 n
  copyProbs i arg4 arg7 harg7 s1 n
  each i (issue i arg2 arg6 arg8 arg9) lanes
  each i (await i arg2 arg8 arg9) lanes
  let _ ← scale i arg7 arg8
  copyOut i arg5 arg8 harg8 s2 n

variable (harg2 : arg2.IsWhole) (harg3 : arg3.IsWhole) (harg4 : arg4.IsWhole) (harg5 : arg5.IsWhole)
  (v1059_r0 v1059_r1 v1059_r2 v1059_r3 v1059_r4 v1059_r5 v1059_r6 v1059_r7 v1059_r8 v1059_r9 v1059_r10 v1059_r11 v1059_r12 v1059_r13 v1059_r14 v1059_r15 v1059_r16 v1059_r17 v1059_r18 v1059_r19 v1059_r20 v1059_r21 v1059_r22 v1059_r23 : DmaSems sig S_)

/-- The body is its eight batches. -/
theorem body_eq : cc2__gather_scale_body (F := F) i arg2 harg2 arg3 harg3 arg4 harg4 arg5 harg5 arg6 harg6 arg7 harg7 arg8 harg8 arg9 v1059_r0 v1059_r1 v1059_r2 v1059_r3 v1059_r4 v1059_r5 v1059_r6 v1059_r7 v1059_r8 v1059_r9 v1059_r10 v1059_r11 v1059_r12 v1059_r13 v1059_r14 v1059_r15 v1059_r16 v1059_r17 v1059_r18 v1059_r19 v1059_r20 v1059_r21 v1059_r22 v1059_r23 = (do
  batch i arg2 arg3 arg4 arg5 arg6 harg6 arg7 harg7 arg8 harg8 arg9 v1059_r0 v1059_r1 v1059_r2 0
  batch i arg2 arg3 arg4 arg5 arg6 harg6 arg7 harg7 arg8 harg8 arg9 v1059_r3 v1059_r4 v1059_r5 1
  batch i arg2 arg3 arg4 arg5 arg6 harg6 arg7 harg7 arg8 harg8 arg9 v1059_r6 v1059_r7 v1059_r8 2
  batch i arg2 arg3 arg4 arg5 arg6 harg6 arg7 harg7 arg8 harg8 arg9 v1059_r9 v1059_r10 v1059_r11 3
  batch i arg2 arg3 arg4 arg5 arg6 harg6 arg7 harg7 arg8 harg8 arg9 v1059_r12 v1059_r13 v1059_r14 4
  batch i arg2 arg3 arg4 arg5 arg6 harg6 arg7 harg7 arg8 harg8 arg9 v1059_r15 v1059_r16 v1059_r17 5
  batch i arg2 arg3 arg4 arg5 arg6 harg6 arg7 harg7 arg8 harg8 arg9 v1059_r18 v1059_r19 v1059_r20 6
  batch i arg2 arg3 arg4 arg5 arg6 harg6 arg7 harg7 arg8 harg8 arg9 v1059_r21 v1059_r22 v1059_r23 7) := by
  rw [cc2__gather_scale_body_eq_skeleton]
  unfold cc2__gather_scale_body_skel
  rw [k2_part93_eq_skeleton]
  unfold k2_part93_skel
  rw [k2_part41_eq_skeleton, k2_part47_eq_skeleton, k2_part53_eq_skeleton, k2_part60_eq_skeleton, k2_part67_eq_skeleton, k2_part73_eq_skeleton, k2_part80_eq_skeleton, k2_part86_eq_skeleton]
  unfold k2_part41_skel k2_part47_skel k2_part53_skel k2_part60_skel k2_part67_skel k2_part73_skel k2_part80_skel k2_part86_skel
  unfold batch
  simp only [bind_assoc, pure_bind]
  chain_rfl

end Pieces

end Cert.Proof.Lsh

end
-- ==== Proof.Copies.lean ====
/- The three copies of a batch: codes in, probabilities in, rows out. -/
module

public import proofs.«01_k».proof.Proof.Body

@[expose] public section

set_option maxRecDepth 16384

noncomputable section

namespace Cert.Proof.Lsh

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The subcore of device `d` at grid point `i`. -/
abbrev thr (d : Dev nD) (i : grid2.Coords) : Thread nD τ := V d ((i 0).castLE hcore2) ((i 1).castLE hsub2)

/-- The four arrays the body is called on, and its three scratch buffers. -/
abbrev tabM : Memref sig .scVector .hbm S8388608x16 .f32 := Memref.whole main_v4_scv
abbrev codeM : Memref sig .scVector .hbm S4096x128 .i32 := Memref.whole main_v20_0_scv
abbrev probM : Memref sig .scVector .hbm S4096x128 .f32 := Memref.whole main_v20_1_scv
abbrev outM : Memref sig .scVector .hbm S524288x16 .f32 := Memref.whole main_v21_scv
abbrev idxM : Memref sig .scVector .vmem S16x128 .i32 := Memref.whole cc2_scratch0
abbrev pM : Memref sig .scVector .vmem S16x128 .f32 := Memref.whole cc2_scratch1
abbrev rowM : Memref sig .scVector .vmem S2048x16 .f32 := Memref.whole cc2_scratch2

section Copies

variable (d : Dev nD) (i : grid2.Coords) (n : Fin 8) (s : DmaSems sig S_) (q : PosShare TreeShare)

/-- The codes of batch `n` come into the index scratch. -/
theorem wp_copyCodes (C : Buf (Elt F) ((thr d i).loc main_v20_0_scv)) (f : Buf (Elt F) ((thr d i).loc cc2_scratch0))
    (O : CellTallies nD τ sig (HIx 1)) (W : Waits sig (HIx 1)) :
    (iprop(Transfers.MayWaits (thr d i) (default : HIx 1) O ∗ (codeM.view.loc (thr d i) ↦{q} C) ∗ (idxM.view.loc (thr d i) ↦{fullShare} f) ∗ semVal (thr d i, .dma s.sem) 0 ∗ owes (thr d i) O W) : sProp (MM F))
      ⊢ wp frame (wpE (defs₀ (F := F)) 𝒱₀ (thr d i) none) Set.univ (copyCodes i codeM idxM (Memref.isWhole_whole _) s n)
          fun _ => iprop((codeM.view.loc (thr d i) ↦{q} C) ∗ (idxM.view.loc (thr d i) ↦{fullShare} ((codeRows i codeM n).view.read (Elt F) C))
            ∗ semVal (thr d i, .dma s.sem) 0 ∗ owes (thr d i) O (insert (SemLoc.dma s.sem, none) W)) := by
  unfold copyCodes
  iintro ⟨#Hmw, HC, Hf, Hs, HO⟩
  sl_exec
  sl_step
  isplitl [HC]; · iexact HC
  isplitl [Hf]; · rw [show View.write (Elt F) idxM.view f (wp_copyCodes.sl.dma0 d i n C) Finset.univ = (codeRows i codeM n).view.read (Elt F) C from View.write_whole_univ _ _ _]; iexact Hf
  isplitl [Hs]; · iexact Hs
  iexact HO

/-- The probabilities of batch `n` come into their scratch. -/
theorem wp_copyProbs (C : Buf (Elt F) ((thr d i).loc main_v20_1_scv)) (f : Buf (Elt F) ((thr d i).loc cc2_scratch1))
    (O : CellTallies nD τ sig (HIx 1)) (W : Waits sig (HIx 1)) :
    (iprop(Transfers.MayWaits (thr d i) (default : HIx 1) O ∗ (probM.view.loc (thr d i) ↦{q} C) ∗ (pM.view.loc (thr d i) ↦{fullShare} f) ∗ semVal (thr d i, .dma s.sem) 0 ∗ owes (thr d i) O W) : sProp (MM F))
      ⊢ wp frame (wpE (defs₀ (F := F)) 𝒱₀ (thr d i) none) Set.univ (copyProbs i probM pM (Memref.isWhole_whole _) s n)
          fun _ => iprop((probM.view.loc (thr d i) ↦{q} C) ∗ (pM.view.loc (thr d i) ↦{fullShare} ((probRows i probM n).view.read (Elt F) C))
            ∗ semVal (thr d i, .dma s.sem) 0 ∗ owes (thr d i) O (insert (SemLoc.dma s.sem, none) W)) := by
  unfold copyProbs
  iintro ⟨#Hmw, HC, Hf, Hs, HO⟩
  sl_exec
  sl_step
  isplitl [HC]; · iexact HC
  isplitl [Hf]; · rw [show View.write (Elt F) pM.view f (wp_copyProbs.sl.dma0 d i n C) Finset.univ = (probRows i probM n).view.read (Elt F) C from View.write_whole_univ _ _ _]; iexact Hf
  isplitl [Hs]; · iexact Hs
  iexact HO

/-- The scaled rows of batch `n` go out to their 2048 rows of the result. -/
theorem wp_copyOut (R : Buf (Elt F) ((thr d i).loc cc2_scratch2)) (f : Buf (Elt F) ((thr d i).loc main_v21_scv))
    (O : CellTallies nD τ sig (HIx 1)) (W : Waits sig (HIx 1)) :
    (iprop(Transfers.MayWaits (thr d i) (default : HIx 1) O ∗ (rowM.view.loc (thr d i) ↦{fullShare} R)
        ∗ ((outRows i outM n).view.loc (thr d i) ↦[(outRows i outM n).view.set]{fullShare} f) ∗ semVal (thr d i, .dma s.sem) 0 ∗ owes (thr d i) O W) : sProp (MM F))
      ⊢ wp frame (wpE (defs₀ (F := F)) 𝒱₀ (thr d i) none) Set.univ (copyOut i outM rowM (Memref.isWhole_whole _) s n)
          fun _ => iprop((rowM.view.loc (thr d i) ↦{fullShare} R)
            ∗ ((outRows i outM n).view.loc (thr d i) ↦[(outRows i outM n).view.set]{fullShare} ((outRows i outM n).view.writes (Elt F) f [⟨Rect.whole S2048x16, R⟩]))
            ∗ semVal (thr d i, .dma s.sem) 0 ∗ owes (thr d i) O (insert (SemLoc.dma s.sem, none) W)) := by
  unfold copyOut
  iintro ⟨#Hmw, HR, Hf, Hs, HO⟩
  sl_exec
  sl_step
  rw [show wp_copyOut.sl.dma0 d i R = R from rfl]
  isplitl [HR]; · iexact HR
  isplitl [Hf]; · iexact Hf
  isplitl [Hs]; · iexact Hs
  iexact HO

end Copies

end Cert.Proof.Lsh

end
-- ==== Proof.Scale.lean ====
/- The scaling loop. -/
module

public import proofs.«01_k».proof.Proof.Copies
public import Idealize.ShloMosaic.Lib.ValueLayout
public import Idealize.ShloMosaic.Lib.WritesUnit
public import Idealize.ShloMosaic.Lib.VecWindow
public import Idealize.ShloMosaic.Lib.LaneScatter.Tiles

@[expose] public section

set_option maxRecDepth 16384

noncomputable section

namespace Cert.Proof.Lsh

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

section Each

variable {d : Dev nD} {i : grid2.Coords}

/-- Steps in order, by an invariant that counts them. -/
theorem wp_each {α : Type} (f : α → TileProg F i PUnit) (I : ℕ → sProp (MM F)) :
    ∀ (l : List α) (k : ℕ) (_ : ∀ (j : ℕ) (h : j < l.length),
        I (k + j) ⊢ wp frame (wpE (defs₀ (F := F)) 𝒱₀ (thr d i) none) Set.univ (f l[j]) fun _ => I (k + j + 1)),
      I k ⊢ wp frame (wpE (defs₀ (F := F)) 𝒱₀ (thr d i) none) Set.univ (each i f l) fun _ => I (k + l.length)
  | [], k, _ => by
    unfold each
    iintro H
    sl_step
    iexact H
  | a :: l, k, h => by
    unfold each
    rw [wp_bind]
    iintro H
    iapply (wp_wand_r frame _ _)
    isplitl [H]
    · iapply (h 0 (Nat.zero_lt_succ _)); iexact H
    · iintro %_ H
      have hl : k + (a :: l).length = (k + 0 + 1) + l.length := by simp only [List.length_cons]; omega
      rw [hl]
      iapply (wp_each f I l (k + 0 + 1) fun j hj => by
        have h' := h (j + 1) (Nat.succ_lt_succ hj)
        rw [show k + 0 + 1 + j = k + (j + 1) by omega]
        exact h')
      iexact H

/-- The sixteen lanes in order. -/
theorem wp_lanes (f : Fin 16 → TileProg F i PUnit) (I : ℕ → sProp (MM F))
    (h : ∀ j : Fin 16, I j.val ⊢ wp frame (wpE (defs₀ (F := F)) 𝒱₀ (thr d i) none) Set.univ (f j) fun _ => I (j.val + 1)) :
    I 0 ⊢ wp frame (wpE (defs₀ (F := F)) 𝒱₀ (thr d i) none) Set.univ (each i f lanes) fun _ => I 16 := by
  have hl : ∀ j : Fin 16, lanes[j.val]'j.isLt = j := by decide
  refine wp_each f I lanes 0 fun j hj => ?_
  have := h ⟨j, hj⟩
  rw [Nat.zero_add]
  rw [show lanes[j] = (⟨j, hj⟩ : Fin 16) from hl ⟨j, hj⟩]
  exact this

end Each

/-- A lane of the probabilities' row. -/
theorem lane_apply (j : Fin 16) (p : Vec F S1x16 .f32) (e : Fin 16) :
    broadcast S16 (extractAt ![0] (extractStridedSlice S1 ![j.val] (shapeCast S16 p shapeCasts_S1x16_S16 : FVec F S16 .f32) (slices_lane j)) inpos_S1_p0) (ix1 e)
      = p (ix2 (0 : Fin 1) j) := by
  rw [broadcast_apply]
  unfold extractAt
  refine (extractStridedSlice_apply _ _ _ _ (ix1 j) (fun a => ?_)).trans (shapeCast_1a_a_apply (a := 16) p _ j)
  obtain ⟨v, hv⟩ := a
  obtain rfl : v = 0 := Nat.lt_one_iff.mp hv
  rfl

/-- The scaled row at lane entry `e`. -/
theorem scaleRow_apply (j : Fin 16) (p r : Vec F S1x16 .f32) (u : Fin 1) (e : Fin 16) :
    scaleRow j p r (ix2 u e) = FloatOps.mulf (r (ix2 (0 : Fin 1) e)) (p (ix2 (0 : Fin 1) j)) := by
  unfold scaleRow
  refine (shapeCast_a_1a_apply (a := 16) _ _ u e).trans ?_
  exact congrArg₂ FloatOps.mulf (shapeCast_1a_a_apply (a := 16) r _ e) (lane_apply j p e)

/-- The probability that scales row `m` of the block. -/
def rowProb (P : S16x128.Idx → F .f32) (m : Fin 2048) : F .f32 :=
  P (ix2 ⟨m.val / 128, by omega⟩ ⟨m.val % 128, by omega⟩)

/-- The gathered rows, the first `m` of them scaled by their probabilities. -/
def scaled (R : S2048x16.Idx → F .f32) (P : S16x128.Idx → F .f32) (m : ℕ) : S2048x16.Idx → F .f32 := fun x =>
  if (x 0).val < m then FloatOps.mulf (R x) (rowProb P (x 0)) else R x

/-- A load of row `16 t + j`. -/
theorem row_window (t : Fin k2_t1_loop.trips) (j : Fin 16) (R : S2048x16.Idx → F .f32) (e : Fin 16) :
    rowM.view.readAt (Elt F) (Rect.unit (s := S2048x16) (k2_off3 t (BitVec.ofNat 32 j.val)) S1x16.size (k2_off3_inb t j)).toLoadRect R (ix2 (0 : Fin 1) e)
      = R (ix2 ⟨16 * t.val + j.val, by have : t.val < 128 := t.isLt; omega⟩ e) := by
  refine congrArg R (Shape.idx_ext₂ ?_ ?_)
  · refine (ValueKit.rect_emb_unit_val (s := S2048x16) (k2_off3 t (BitVec.ofNat 32 j.val)) S1x16.size (k2_off3_inb t j) (ix2 (0 : Fin 1) e) 0).trans ?_
    exact congrArg (· + 0) (congrFun (k2_off3_eq t j) 0)
  · refine (ValueKit.rect_emb_unit_val (s := S2048x16) (k2_off3 t (BitVec.ofNat 32 j.val)) S1x16.size (k2_off3_inb t j) (ix2 (0 : Fin 1) e) 1).trans ?_
    exact (congrArg (· + e.val) (congrFun (k2_off3_eq t j) 1)).trans (Nat.zero_add _)

/-- Scaling one more row of a block whose first rows are scaled. -/
theorem scaled_step (R : S2048x16.Idx → F .f32) (P : S16x128.Idx → F .f32) (t : Fin k2_t1_loop.trips) (j : Fin 16)
    (p : Vec F S1x16 .f32) (hp : p (ix2 (0 : Fin 1) j) = rowProb P ⟨16 * t.val + j.val, by have : t.val < 128 := t.isLt; omega⟩) :
    rowM.view.writes (Elt F) (scaled R P (16 * t.val + j.val))
      [⟨Rect.unit (s := S2048x16) (k2_off3 t (BitVec.ofNat 32 j.val)) S1x16.size (k2_off3_inb t j),
        scaleRow j p (rowM.view.readAt (Elt F) (Rect.unit (s := S2048x16) (k2_off3 t (BitVec.ofNat 32 j.val)) S1x16.size (k2_off3_inb t j)).toLoadRect (scaled R P (16 * t.val + j.val)))⟩]
      = scaled R P (16 * t.val + j.val + 1) := by
  have ht : t.val < 128 := t.isLt
  funext x
  refine (congrFun (View.read_whole (Val := Elt F) cc2_scratch2 (rowM.view.writes (Elt F) _ _)) x).symm.trans ?_
  by_cases hx : (x 0).val = 16 * t.val + j.val
  · refine (View.read_writes_cons_rows_of_mem (d := ![2048, 16]) (size := S1x16.size) rowM.view _ _ _ _ x (ix2 (0 : Fin 1) (x 1)) (k2_off3_eq t j) hx rfl).trans ?_
    refine (scaleRow_apply j p _ 0 (x 1)).trans ?_
    rw [hp, row_window t j _ (x 1)]
    have e : (ix2 ⟨16 * t.val + j.val, by omega⟩ (x 1) : S2048x16.Idx) = x := Shape.idx_ext₂ hx.symm rfl
    have e0 : (⟨16 * t.val + j.val, by omega⟩ : Fin 2048) = x 0 := Fin.ext hx.symm
    rw [e, e0]
    unfold scaled
    rw [if_neg (by omega), if_pos (by omega)]
  · refine (View.read_writes_cons_rows_of_not_mem (d := ![2048, 16]) (size := S1x16.size) (W := 1) rowM.view _ _ _ _ x (k2_off3_eq t j) rfl (by omega)).trans ?_
    show scaled R P _ x = _
    unfold scaled
    by_cases h : (x 0).val < 16 * t.val + j.val
    · rw [if_pos h, if_pos (by omega)]
    · rw [if_neg h, if_neg (by omega)]

variable (d : Dev nD) (i : grid2.Coords)

/-- One lane: row `16 t + j` scaled. -/
theorem wp_scaleLane (t : Fin k2_t1_loop.trips) (p : Vec F S1x16 .f32) (j : Fin 16)
    (R : S2048x16.Idx → F .f32) (P : S16x128.Idx → F .f32)
    (hp : p (ix2 (0 : Fin 1) j) = rowProb P ⟨16 * t.val + j.val, by have : t.val < 128 := t.isLt; omega⟩) :
    ((rowM.view.loc (thr d i) ↦{fullShare} (scaled R P (16 * t.val + j.val))) : sProp (MM F))
      ⊢ wp frame (wpE (defs₀ (F := F)) 𝒱₀ (thr d i) none) Set.univ (scaleLane i rowM t p j)
          fun _ => (rowM.view.loc (thr d i) ↦{fullShare} (scaled R P (16 * t.val + j.val + 1))) := by
  unfold scaleLane
  iintro HR
  sl_exec
  sl_step
  rw [scaled_step R P t j p hp]
  iexact HR

/-- The row of the probabilities trip `t` loads from. -/
theorem k2_off2_eq : ∀ t : Fin k2_t1_loop.trips, k2_off2 t = ![t.val / 8, t.val % 8 * 16] := by decide +kernel

/-- The sixteen probabilities of trip `t` are those of its rows. -/
theorem trip_prob (P : S16x128.Idx → F .f32) (t : Fin k2_t1_loop.trips) (j : Fin 16) :
    pM.view.readAt (Elt F) (Rect.unit (s := S16x128) (k2_off2 t) S1x16.size (k2_off2_inb t)).toLoadRect P (ix2 (0 : Fin 1) j)
      = rowProb P ⟨16 * t.val + j.val, by have : t.val < 128 := t.isLt; omega⟩ := by
  have ht : t.val < 128 := t.isLt
  refine congrArg P (Shape.idx_ext₂ ?_ ?_)
  · refine (ValueKit.rect_emb_unit_val (s := S16x128) (k2_off2 t) S1x16.size (k2_off2_inb t) (ix2 (0 : Fin 1) j) 0).trans ?_
    refine (congrArg (· + 0) (congrFun (k2_off2_eq t) 0)).trans ?_
    show t.val / 8 + 0 = (16 * t.val + j.val) / 128
    omega
  · refine (ValueKit.rect_emb_unit_val (s := S16x128) (k2_off2 t) S1x16.size (k2_off2_inb t) (ix2 (0 : Fin 1) j) 1).trans ?_
    refine (congrArg (· + j.val) (congrFun (k2_off2_eq t) 1)).trans ?_
    show t.val % 8 * 16 + j.val = (16 * t.val + j.val) % 128
    omega

/-- One trip: sixteen rows scaled. -/
theorem wp_scaleTrip (t : Fin k2_t1_loop.trips) (a : BitVec 32) (R : S2048x16.Idx → F .f32) (P : S16x128.Idx → F .f32) :
    (iprop((pM.view.loc (thr d i) ↦{fullShare} P) ∗ rowM.view.loc (thr d i) ↦{fullShare} (scaled R P (16 * t.val))) : sProp (MM F))
      ⊢ wp frame (wpE (defs₀ (F := F)) 𝒱₀ (thr d i) none) Set.univ (scaleTrip i pM rowM t a)
          fun _ => iprop((pM.view.loc (thr d i) ↦{fullShare} P) ∗ rowM.view.loc (thr d i) ↦{fullShare} (scaled R P (16 * (t.val + 1)))) := by
  obtain ⟨g, hg⟩ : ∃ g : Vec F S1x16 .f32 → TileProg F i PUnit, g = fun p => each i (scaleLane i rowM t p) lanes := ⟨_, rfl⟩
  have e : scaleTrip i pM rowM t a = (do
      let p ← Prog.lift (.load pM (Rect.unit (s := S16x128) (k2_off2 t) S1x16.size (k2_off2_inb t)).toLoadRect (View.loadsAt_vmem h_S1x16))
      g p
      pure 0#32) := by rw [hg]; rfl
  rw [e]
  iintro ⟨HP, HR⟩
  sl_exec
  subst hg
  rw [wp_bind]
  iapply (wp_wand_r frame _ _)
  isplitl [HR]
  · iapply (wp_lanes (d := d) (i := i) _ (fun k => (rowM.view.loc (thr d i) ↦{fullShare} (scaled R P (16 * t.val + k)))) (fun j => wp_scaleLane d i t _ j R P (trip_prob P t j)))
    iexact HR
  · iintro %_ HR
    sl_step
    isplitl [HP]; · iexact HP
    iexact HR

/-- The loop: every row scaled. -/
theorem wp_scale (R : S2048x16.Idx → F .f32) (P : S16x128.Idx → F .f32) :
    (iprop((pM.view.loc (thr d i) ↦{fullShare} P) ∗ rowM.view.loc (thr d i) ↦{fullShare} R) : sProp (MM F))
      ⊢ wp frame (wpE (defs₀ (F := F)) 𝒱₀ (thr d i) none) Set.univ (scale i pM rowM)
          fun _ => iprop((pM.view.loc (thr d i) ↦{fullShare} P) ∗ rowM.view.loc (thr d i) ↦{fullShare} (scaled R P 2048)) := by
  have h0 : scaled R P (16 * 0) = R := by
    funext x; unfold scaled; rw [if_neg (by omega)]
  have ht : k2_t1_loop.trips = 128 := rfl
  unfold scale
  iintro ⟨HP, HR⟩
  iapply (Scf.wp_for frame (wpE (defs₀ (F := F)) 𝒱₀ (thr d i) none) Set.univ _ _ _ k2_t1_ok (0#32) (scaleTrip i pM rowM)
    (fun k _ => iprop((pM.view.loc (thr d i) ↦{fullShare} P) ∗ rowM.view.loc (thr d i) ↦{fullShare} (scaled R P (16 * k))))
    (fun k acc => wp_scaleTrip d i k acc R P))
  isplitl [HP HR]
  · rw [h0]
    isplitl [HP] <;> iassumption
  · iintro %_ ⟨HP, HR⟩
    isplitl [HP]; · iexact HP
    iexact HR

end Cert.Proof.Lsh

end
-- ==== Proof.Gather.lean ====
/- The gathers of one batch: sixteen streams on one semaphore. -/
module

public import proofs.«01_k».proof.Proof.Scale
public import Idealize.ShloMosaic.Lib.Batch
public import Idealize.ShloMosaic.Lib.SparseCore.Stream

@[expose] public section

set_option maxRecDepth 16384

noncomputable section

namespace Cert.Proof.Lsh

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.SparseCore (rows gatherPayload gatherRow)

section Stream

variable (c : Thread nD τ) {Λ : Labels} {defs : Defs nD τ sig (Elt F) Λ} (𝒱' : Variants) (bd : Option 𝒱'.V)
variable {sp : Space} {s₀ s si : Shape} {e : EltTy} {a n : ℕ} {α : Type} {Q : α → sProp (MM F)}
variable (src : Memref sig c.2.kind sp s₀ e) (dst : Memref sig c.2.kind .vmem s e) (hg : s₀.Gathers a s)
  (offs : Memref sig c.2.kind .vmem si .i32) (hn : si.numel = s.size hg.axis')

/-- Entry `j` of an offset list of `s.size hg.axis'` words. -/
def entryOf (hn : si.numel = s.size hg.axis') (j : Fin (s.size hg.axis')) : si.Idx := si.rowMajor.symm (j.cast hn.symm)

/-- What row `j` of a gather brings back: its row written, its word's share and its share of the source. -/
def rowGot (q qo : PosShare TreeShare) (fs : Buf (Elt F) (src.view.loc c)) (fd : Buf (Elt F) (dst.view.loc c)) (fo : Buf (Elt F) (offs.view.loc c))
    (w : s.Idx → Elt F e) (ho : 0 < s.size hg.axis') (j : Fin (s.size hg.axis')) : sProp (MM F) :=
  iprop(((dst.view.loc c ↦[(dst.view.slice (s.rowRect hg.axis' j)).set]{fullShare}
          ((dst.view.slice (s.rowRect hg.axis' j)).write (Elt F) fd (fun i : (s.rowShape hg.axis').Idx => w ((s.rowRect hg.axis' j).emb i)) Finset.univ))
      ∗ (offs.view.loc c ↦[{offs.view.emb (entryOf hg hn j)}]{qo} fo)) ∗ (src.view.loc c ↦[src.view.set]{pieceOf q _ ho j} fs))

instance rowGot_storable (q qo : PosShare TreeShare) (fs : Buf (Elt F) (src.view.loc c)) (fd : Buf (Elt F) (dst.view.loc c)) (fo : Buf (Elt F) (offs.view.loc c))
    (w : s.Idx → Elt F e) (ho : 0 < s.size hg.axis') (j : Fin (s.size hg.axis')) :
    Storable (upEmb : UEmb _ (MM F)) (rowGot c src dst hg offs hn q qo fs fd fo w ho j) := by
  unfold rowGot; infer_instance

/-- Every row of a gather back: the destination written, the source's and the list's shares whole. -/
theorem rowGot_join (q qo : PosShare TreeShare) (fs : Buf (Elt F) (src.view.loc c)) (fd : Buf (Elt F) (dst.view.loc c)) (fo : Buf (Elt F) (offs.view.loc c))
    (w : s.Idx → Elt F e) (ho : 0 < s.size hg.axis') :
    bigSep Finset.univ (rowGot c src dst hg offs hn q qo fs fd fo w ho)
      ⊢ iprop((dst.view.loc c ↦[dst.view.set]{fullShare} (dst.view.write (Elt F) fd w Finset.univ))
          ∗ (src.view.loc c ↦[src.view.set]{q} fs) ∗ (offs.view.loc c ↦[offs.view.set]{qo} fo)) := by
  have hen : Function.Bijective (entryOf hg hn) := si.rowMajor.symm.bijective.comp (finCongr hn.symm).bijective
  unfold rowGot
  iintro H
  ihave H := Transfers.bigSep_sep_out _ _ _ $$ H
  icases H with ⟨H, Hs⟩
  ihave H := Transfers.bigSep_sep_out _ _ _ $$ H
  icases H with ⟨Hd, Ho⟩
  isplitl [Hd]
  · iapply (pointsTo_rows_write c dst.view hg.axis' fd _ w fun _ _ => rfl); iexact Hd
  isplitl [Hs]
  · iapply (Entails.of_eq (pointsTo_piecesOf src.view.set fs ho q).symm) $$ Hs
  · iapply (Entails.of_eq (pointsTo_entries c offs.view (entryOf hg hn) hen qo fo).symm) $$ Ho

/-- The issue of a gather whose every row is one transfer of a batch: row `j` is transfer `t j`. -/
theorem wp_issueRows {sem : DmaSem sig} {hp : c.2.kind = .scVector} {hsrc : src.view.WordExact} {he : e.bits = 32} {hsp : sp = .hbm ∨ sp = .shared}
    {hr : s₀.StreamRows a} {k : PUnit → Prog (TpuEff nD τ sig (Elt F) Λ c.2) α}
    (q qo : PosShare TreeShare) (fs : Buf (Elt F) (src.view.loc c)) (fd : Buf (Elt F) (dst.view.loc c)) (fo : Buf (Elt F) (offs.view.loc c))
    (ι : HIx 1) (N M : ℕ) (ho : 0 < s.size hg.axis') (hin : ∀ x, (offs.view.read (Elt F) fo x).toNat < s₀.size hg.axis)
    (hN : ∀ j, (dst.slice (s.rowRect hg.axis' j) (s.stride_rowRect hg.axis' j)).view.dmaCredit = N) (hM : s.size hg.axis' * N = M)
    (D : Fin n → sProp (MM F)) (t : Fin (s.size hg.axis') → Fin n) (γ : Fin n → ℕ) (δ κ : ℕ)
    (hD : ∀ j, rowGot c src dst hg offs hn q qo fs fd fo
        (gatherPayload hg (src.view.read (Elt F) fs) (rows (offs.view.read (Elt F) fo) hn hin)) ho j ⊢ D (t j)) :
    iprop(inv κ (Transfers.batchBody (countersEmb (U := UU)) (c, SemLoc.dma sem) N D γ δ)
        ∗ ((src.view.loc c ↦[src.view.set]{q} fs) ∗ (dst.view.loc c ↦[dst.view.set]{fullShare} fd)
          ∗ (offs.view.loc c ↦[offs.view.set]{qo} fo) ∗ bigSep Finset.univ fun j => count (countersEmb (U := UU)) (γ (t j)) 0))
      ⊢ iprop((cred (tallyAt (c, SemLoc.dma sem) ι M) -∗ wp frame (wpE defs 𝒱' c bd) Set.univ (k ⟨⟩) Q)
          -∗ wp frame (wpE defs 𝒱' c bd) Set.univ (SparseCore.enqueueIndirectGather hp src dst hg offs hn sem hsrc he hsp hr >>= k) Q) := by
  rw [SparseCore.enqueueIndirectGather_bind]
  have hen : Function.Bijective (entryOf hg hn) := si.rowMajor.symm.bijective.comp (finCongr hn.symm).bijective
  let rd : (j : Fin (s.size hg.axis')) → RowDma τ sig (Elt F) c.2 sem := fun j =>
    gatherRow c src dst hg sem hsrc he hsp hr j (rows (offs.view.read (Elt F) fo) hn hin j)
  -- what a row's resources are: its deposit, and the batch's record of its credit
  have hrow : ∀ j, iprop(inv κ (Transfers.batchBody (countersEmb (U := UU)) (c, SemLoc.dma sem) N D γ δ)
        ∗ ((((dst.view.loc c ↦[(dst.view.slice (s.rowRect hg.axis' j)).set]{fullShare} fd)
            ∗ (offs.view.loc c ↦[{offs.view.emb (entryOf hg hn j)}]{qo} fo))
          ∗ (src.view.loc c ↦[src.view.set]{pieceOf q _ ho j} fs)) ∗ count (countersEmb (U := UU)) (γ (t j)) 0))
      ⊢ iprop((offs.view.loc c ↦[{offs.view.emb (entryOf hg hn j)}]{qo} fo)
          ∗ ((offs.view.loc c ↦[{offs.view.emb (entryOf hg hn j)}]{qo} fo) -∗ rowRes c (rd j))) := fun j => by
    have hj := hD j
    have hw : (fun i : (s.rowShape hg.axis').Idx => gatherPayload hg (src.view.read (Elt F) fs) (rows (offs.view.read (Elt F) fo) hn hin) ((s.rowRect hg.axis' j).emb i))
        = fun i : (s.rowShape hg.axis').Idx => src.view.read (Elt F) fs (hg.rowIdx (rows (offs.view.read (Elt F) fo) hn hin j) i) := by
      funext i; unfold gatherPayload; rw [Shape.Gathers.idx_rowRect_emb]
    unfold rowGot at hj
    rw [hw] at hj
    have hc : (rd j).dst.view.amount (.dma sem) = N := hN j
    iintro ⟨#Hinv, ⟨⟨Hr, He⟩, Hs⟩, Hc⟩
    isplitl [He]; · iexact He
    iintro He
    unfold rowRes
    rw [hc]
    iexists pieceOf q _ ho j, fs, _
    isplitl [Hs]; · iexact Hs
    isplitl [Hr He]
    · iapply writeUpdate_frame
      isplitl [Hr]
      · iapply (pointsTo_writeUpdate c (v := dst.view.slice (s.rowRect hg.axis' j)) subset_rfl) $$ Hr
      · iexact He
    · iapply (Transfers.batch_creditUpdate (countersEmb (U := UU)) (t j) hj)
      isplitr; · iexact Hinv
      iexact Hc
  have hA : (Stream.issued c offs.view hn sem (fun j (w : Elt F .i32) => (SparseCore.rowOf (s₀.size hg.axis) w).map (gatherRow (F := F) c src dst hg sem hsrc he hsp hr j)) 0).RowsAgree := by
    intro j x x' ρ ρ' h h'
    obtain ⟨_, _, rfl⟩ := Option.map_eq_some_iff.mp h
    obtain ⟨_, _, rfl⟩ := Option.map_eq_some_iff.mp h'
    rfl
  have hrd : ∀ j, (SparseCore.rowOf (s₀.size hg.axis) (offs.view.read (Elt F) fo (entryOf hg hn j))).map (gatherRow c src dst hg sem hsrc he hsp hr j) = some (rd j) := fun j => by
    rw [SparseCore.rowOf_of_lt (hin _)]; rfl
  have hM' : ∑ j, (rd j).dst.view.dmaCredit = M := by
    rw [Finset.sum_congr rfl (fun j _ => hN j), Finset.sum_const, Finset.card_univ, Fintype.card_fin, smul_eq_mul, hM]
  iintro ⟨#Hinv, Hs, Hd, Ho, Hγ⟩ Hk
  ihave Hd := (Entails.of_eq (pointsTo_rows c dst.view hg.axis' fullShare fd)) $$ Hd
  ihave Ho := (Entails.of_eq (pointsTo_entries c offs.view (entryOf hg hn) hen qo fo)) $$ Ho
  ihave Hs := (Entails.of_eq (pointsTo_piecesOf src.view.set fs ho q)) $$ Hs
  iapply (wp_enqueueIndirectDma 𝒱' c bd Set.univ (qo := qo) (fo := fo) (rd := rd) ι M hA hrd hM') $$ [Hd Ho Hs Hγ]
  · unfold Stream.res
    ihave H := Transfers.bigSep_sep_in _ _ _ $$ [Hd Ho]; · isplitl [Hd] <;> iassumption
    ihave H := Transfers.bigSep_sep_in _ _ _ $$ [H Hs]; · isplitl [H] <;> iassumption
    ihave H := Transfers.bigSep_sep_in _ _ _ $$ [H Hγ]; · isplitl [H] <;> iassumption
    iapply (Transfers.bigSep_mono_pers Finset.univ _ _ _ fun j _ => hrow j)
    isplitr; · iexact Hinv
    iexact H
  · iintro Hc
    iapply Hk $$ Hc

end Stream

end Cert.Proof.Lsh

end
-- ==== Proof.Gathers.lean ====
/- The gathers of one batch: sixteen issues, sixteen waits. -/
module

public import proofs.«01_k».proof.Proof.Gather

@[expose] public section

set_option maxRecDepth 16384

noncomputable section

namespace Cert.Proof.Lsh

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.ValueIdx
open Idealize.ShloMosaic.SparseCore (rows gatherPayload gatherRow)

/-- What a batch's gathers bring: row `m` is the table's row named by code `m`. -/
def gathered (T : S8388608x16.Idx → F .f32) (I : S16x128.Idx → BitVec 32) : S2048x16.Idx → F .f32 := fun x =>
  T (ix2 ⟨(I (ix2 ⟨(x 0).val / 128, Nat.div_lt_of_lt_mul (x 0).isLt⟩ ⟨(x 0).val % 128, Nat.mod_lt _ (by decide)⟩)).toNat % 8388608, Nat.mod_lt _ (by decide)⟩ (x 1))

/-- An element of gather `g`'s rows. -/
theorem rowsAt_emb (g : Fin 16) (y : S128x16.Idx) :
    ((rowsAt rowM g).view.emb y : S2048x16.Idx) = ix2 ⟨128 * g.val + (y 0).val, by have := (y 0).isLt; have : (y 0).val < 128 := this; omega⟩ (y 1) := by
  refine Shape.idx_ext₂ ?_ ?_
  · exact ValueKit.rect_emb_unit_val (s := S2048x16) ![128 * g.val, 0] S128x16.size (inb_rows g) y 0
  · exact (ValueKit.rect_emb_unit_val (s := S2048x16) ![128 * g.val, 0] S128x16.size (inb_rows g) y 1).trans (Nat.zero_add _)

/-- Gather `g`'s rows are those whose number divided by 128 is `g`. -/
theorem mem_rowsAt (g : Fin 16) (x : S2048x16.Idx) : x ∈ (rowsAt rowM g).view.set ↔ (x 0).val / 128 = g.val := by
  constructor
  · intro h
    obtain ⟨y, hy⟩ := View.exists_emb_of_mem_set _ h
    have hy : x = (rowsAt rowM g).view.emb y := hy.symm
    rw [hy, rowsAt_emb]
    have : (y 0).val < 128 := (y 0).isLt
    show (128 * g.val + (y 0).val) / 128 = g.val
    omega
  · intro h
    have e : x = (rowsAt rowM g).view.emb (ix2 (⟨(x 0).val % 128, Nat.mod_lt _ (by decide)⟩ : Fin 128) (x 1) : S128x16.Idx) := by
      rw [rowsAt_emb]
      refine Shape.idx_ext₂ ?_ rfl
      show (x 0).val = 128 * g.val + (x 0).val % 128
      omega
    rw [e]
    exact View.emb_mem_set _ _

section Batch

variable (d : Dev nD) (i : grid2.Coords) (sem : DmaSem sig)

/-- What a row of a gather credits. -/
abbrev rowCredit : ℕ := ((rowsAt rowM 0).slice (S128x16.rowRect gathers_S8388608x16_S128x16.axis' (0 : Fin 128)) (S128x16.stride_rowRect _ _)).view.dmaCredit

theorem credit_row (g : Fin 16) (j : Fin 128) :
    ((rowsAt rowM g).slice (S128x16.rowRect gathers_S8388608x16_S128x16.axis' j) (S128x16.stride_rowRect _ _)).view.dmaCredit = rowCredit := rfl

theorem credit_rows (g : Fin 16) : (rowsAt rowM g).view.dmaCredit = 128 * rowCredit := by revert g; decide +kernel

theorem rowCredit_pos : 0 < rowCredit := by decide +kernel

/-- The words gather `g`'s list holds. -/
theorem idxRow_read (g : Fin 16) (I : S16x128.Idx → BitVec 32) (x : S128.Idx) :
    (idxRow idxM g).view.read (Elt F) I x = I (ix2 g (x 0)) := by
  have e : (Shape.reshapeEquiv squeezes_S1x128_S128.numel_eq x : S1x128.Idx) = ix2 (0 : Fin 1) (x 0) :=
    (Shape.reshapeEquiv_cons_one (n := 1) (d := ![128]) squeezes_S1x128_S128.numel_eq x).trans (Shape.idx_ext₂ rfl rfl)
  show I ((Rect.unit (s := S16x128) ![g.val, 0] S1x128.size (inb_idx g)).emb (Shape.reshapeEquiv squeezes_S1x128_S128.numel_eq x)) = _
  rw [e]
  refine congrArg I (Shape.idx_ext₂ ?_ ?_)
  · exact ValueKit.rect_emb_unit_val (s := S16x128) ![g.val, 0] S1x128.size (inb_idx g) (ix2 (0 : Fin 1) (x 0)) 0
  · exact (ValueKit.rect_emb_unit_val (s := S16x128) ![g.val, 0] S1x128.size (inb_idx g) (ix2 (0 : Fin 1) (x 0)) 1).trans (Nat.zero_add _)

/-- The table read whole. -/
theorem tabAll_read (T : S8388608x16.Idx → F .f32) (x : S8388608x16.Idx) : (tabAll tabM).view.read (Elt F) T x = T x := by
  refine congrArg T (Shape.idx_ext₂ ?_ ?_)
  · exact (ValueKit.rect_emb_unit_val (s := S8388608x16) _ _ _ x 0).trans (Nat.zero_add _)
  · exact (ValueKit.rect_emb_unit_val (s := S8388608x16) _ _ _ x 1).trans (Nat.zero_add _)

/-- Gather `g`'s payload is its rows of the whole batch's. -/
theorem payload_eq (g : Fin 16) (T : S8388608x16.Idx → F .f32) (I : S16x128.Idx → BitVec 32)
    (hin : ∀ x, ((idxRow idxM g).view.read (Elt F) I x).toNat < S8388608x16.size gathers_S8388608x16_S128x16.axis) (y : S128x16.Idx) :
    gatherPayload gathers_S8388608x16_S128x16 ((tabAll tabM).view.read (Elt F) T) (rows ((idxRow idxM g).view.read (Elt F) I) rfl hin) y
      = gathered T I ((rowsAt rowM g).view.emb y) := by
  unfold gatherPayload
  have hy : (y 0).val < 128 := (y 0).isLt
  have h0 := Shape.Gathers.idx_axis gathers_S8388608x16_S128x16 (rows ((idxRow idxM g).view.read (Elt F) I) rfl hin) y
  have h1 := Shape.Gathers.idx_of_ne gathers_S8388608x16_S128x16 (rows ((idxRow idxM g).view.read (Elt F) I) rfl hin) y (1 : Fin 2) Nat.one_ne_zero
  have hsym : (S128.rowMajor.symm ((y 0).cast rfl) : S128.Idx) 0 = y 0 := by
    have := (S128.rowMajor.apply_symm_apply ((y 0).cast rfl))
    have hv := congrArg Fin.val this
    rw [Shape.rowMajor_val_one] at hv
    exact Fin.ext hv
  rw [tabAll_read, rowsAt_emb]
  refine congrArg T (Shape.idx_ext₂ ?_ ?_)
  · refine (congrArg Fin.val h0).trans ?_
    have hlt := hin (S128.rowMajor.symm ((y 0).cast rfl))
    show ((idxRow idxM g).view.read (Elt F) I (S128.rowMajor.symm ((y 0).cast rfl))).toNat = (I _).toNat % 8388608
    rw [idxRow_read, hsym] at hlt ⊢
    rw [show (ix2 ⟨(128 * g.val + (y 0).val) / 128, by omega⟩ ⟨(128 * g.val + (y 0).val) % 128, by omega⟩ : S16x128.Idx) = ix2 g (y 0) from
      Shape.idx_ext₂ (show (128 * g.val + (y 0).val) / 128 = g.val by omega) (show (128 * g.val + (y 0).val) % 128 = (y 0).val by omega)]
    exact (Nat.mod_eq_of_lt hlt).symm
  · exact h1

/-- Steps in order, each on resources of its own beside a persistent fact. -/
theorem wp_each_sep {α : Type} [DecidableEq α] (f : α → TileProg F i PUnit) (X : sProp (MM F)) (hX : X ⊢ iprop(X ∗ X)) (A B : α → sProp (MM F))
    (h : ∀ a, iprop(X ∗ A a) ⊢ wp frame (wpE (defs₀ (F := F)) 𝒱₀ (thr d i) none) Set.univ (f a) fun _ => B a) :
    ∀ l : List α, l.Nodup → iprop(X ∗ bigSep l.toFinset A)
      ⊢ wp frame (wpE (defs₀ (F := F)) 𝒱₀ (thr d i) none) Set.univ (each i f l) fun _ => bigSep l.toFinset B
  | [], _ => by
    have h0 : (BI.emp : sProp (MM F)) = bigSep ([] : List α).toFinset B := BI.bigSep_empty.symm
    unfold each
    iintro -
    sl_step
    iapply (Entails.of_eq h0)
    iempintro
  | a :: l, hl => by
    have ha : a ∉ l.toFinset := by rw [List.mem_toFinset]; exact (List.nodup_cons.mp hl).1
    unfold each
    have hA : bigSep (a :: l).toFinset A ⊢ iprop(A a ∗ bigSep l.toFinset A) := by
      rw [List.toFinset_cons]; exact Entails.of_eq (BI.bigSep_insert ha)
    have hB : iprop(B a ∗ bigSep l.toFinset B) ⊢ bigSep (a :: l).toFinset B := by
      rw [List.toFinset_cons]; exact Entails.of_eq (BI.bigSep_insert ha).symm
    rw [wp_bind]
    iintro ⟨HX, HA⟩
    ihave HA := hA $$ HA
    icases HA with ⟨Ha, Hl⟩
    ihave HX := hX $$ HX
    icases HX with ⟨HX, HX'⟩
    iapply (wp_wand_r frame _ _)
    isplitl [HX Ha]
    · iapply (h a)
      isplitl [HX] <;> iassumption
    · iintro %_ HB
      iapply (wp_wand_r frame _ _)
      isplitl [HX' Hl]
      · iapply (wp_each_sep f X hX A B h l (List.nodup_cons.mp hl).2)
        isplitl [HX'] <;> iassumption
      · iintro %_ H
        iapply hB
        isplitl [HB] <;> iassumption

variable (qT : PosShare TreeShare) (T : S8388608x16.Idx → F .f32) (I : S16x128.Idx → BitVec 32) (R : S2048x16.Idx → F .f32)

/-- What row `j` of gather `g` brings back. -/
abbrev got (g : Fin 16) (j : Fin 128) : sProp (MM F) :=
  rowGot (thr d i) (tabAll tabM) (rowsAt rowM g) gathers_S8388608x16_S128x16 (idxRow idxM g) rfl (pieceOf qT 16 (by decide) g) (pieceOf fullShare 16 (by decide) g)
    T R I (fun y => gathered T I ((rowsAt rowM g).view.emb y)) (by decide) j

/-- The same, the rows numbered through. -/
abbrev gotAt (t : Fin (16 * 128)) : sProp (MM F) := got d i qT T I R (finProdFinEquiv.symm t).1 (finProdFinEquiv.symm t).2

/-- What gather `g`'s issue takes. -/
def issueNeeds (sem : DmaSem sig) (γ : Fin (16 * 128) → ℕ) (g : Fin 16) : sProp (MM F) :=
  iprop(((tabAll tabM).view.loc (thr d i) ↦[(tabAll tabM).view.set]{pieceOf qT 16 (by decide) g} T)
    ∗ ((rowsAt rowM g).view.loc (thr d i) ↦[(rowsAt rowM g).view.set]{fullShare} R)
    ∗ ((idxRow idxM g).view.loc (thr d i) ↦[(idxRow idxM g).view.set]{pieceOf fullShare 16 (by decide) g} I)
    ∗ bigSep Finset.univ fun j : Fin 128 => count (countersEmb (U := UU)) (γ (finProdFinEquiv (g, j))) 0)

/-- One issue. -/
theorem wp_issue (arg9 : DmaSems sig S_) (γ : Fin (16 * 128) → ℕ) (δ κ : ℕ) (hI : ∀ x, (I x).toNat < 8388608) (g : Fin 16) :
    iprop(inv κ (Transfers.batchBody (countersEmb (U := UU)) (thr d i, SemLoc.dma arg9.sem) rowCredit (gotAt d i qT T I R) γ δ)
        ∗ issueNeeds d i qT T I R arg9.sem γ g)
      ⊢ wp frame (wpE (defs₀ (F := F)) 𝒱₀ (thr d i) none) Set.univ (issue i tabM idxM rowM arg9 g)
          fun _ => cred (tallyAt (thr d i, SemLoc.dma arg9.sem) (none : HIx 1) (128 * rowCredit)) := by
  have hin : ∀ x, ((idxRow idxM g).view.read (Elt F) I x).toNat < S8388608x16.size gathers_S8388608x16_S128x16.axis := fun x => by
    rw [idxRow_read]; exact hI _
  have hD : ∀ j : Fin 128, rowGot (thr d i) (tabAll tabM) (rowsAt rowM g) gathers_S8388608x16_S128x16 (idxRow idxM g) rfl (pieceOf qT 16 (by decide) g) (pieceOf fullShare 16 (by decide) g)
      T R I (gatherPayload gathers_S8388608x16_S128x16 ((tabAll tabM).view.read (Elt F) T) (rows ((idxRow idxM g).view.read (Elt F) I) rfl hin)) (by decide) j
        ⊢ gotAt d i qT T I R (finProdFinEquiv (g, j)) := fun j => by
    unfold gotAt
    rw [Equiv.symm_apply_apply, show gatherPayload gathers_S8388608x16_S128x16 ((tabAll tabM).view.read (Elt F) T) (rows ((idxRow idxM g).view.read (Elt F) I) rfl hin)
      = fun y => gathered T I ((rowsAt rowM g).view.emb y) from funext fun y => payload_eq g T I hin y]
  unfold issueNeeds
  have key := wp_issueRows (thr d i) (defs := defs₀ (F := F)) 𝒱₀ none (tabAll tabM) (rowsAt rowM g) gathers_S8388608x16_S128x16 (idxRow idxM g) rfl
    (sem := arg9.sem) (hp := rfl) (hsrc := View.wordExact_bits rfl) (he := rfl) (hsp := Or.inl rfl) (hr := by decide) (k := fun _ => Prog.ret PUnit.unit)
    (Q := fun _ => cred (tallyAt (thr d i, SemLoc.dma arg9.sem) (none : HIx 1) (128 * rowCredit)))
    (pieceOf qT 16 (by decide) g) (pieceOf fullShare 16 (by decide) g) T R I none rowCredit (128 * rowCredit) (by decide) hin (credit_row g) rfl
    (gotAt d i qT T I R) (fun j => finProdFinEquiv (g, j)) γ δ κ hD
  refine key.trans ?_
  iintro K
  iapply K
  iintro Hc
  sl_step
  iexact Hc

/-- One wait. -/
theorem wp_await (arg9 : DmaSems sig S_) (O : CellTallies nD τ sig (HIx 1)) (W : Waits sig (HIx 1)) (g : ℕ) (g' : Fin 16) (hg : g < 16) :
    iprop(MayWait (thr d i) (SemLoc.dma arg9.sem) (none : HIx 1) O
        ∗ Transfers.Batch (countersEmb (U := UU)) (thr d i) (.dma arg9.sem) (none : HIx 1) rowCredit (gotAt d i qT T I R) (16 * 128) (128 * g * rowCredit)
        ∗ owes (thr d i) O W)
      ⊢ wp frame (wpE (defs₀ (F := F)) 𝒱₀ (thr d i) none) Set.univ (await i tabM rowM arg9 g')
          fun _ => iprop(Transfers.Batch (countersEmb (U := UU)) (thr d i) (.dma arg9.sem) (none : HIx 1) rowCredit (gotAt d i qT T I R) (16 * 128) (128 * (g + 1) * rowCredit)
            ∗ owes (thr d i) O (insert (SemLoc.dma arg9.sem, none) W)) := by
  have hu : 128 * g * rowCredit + 128 * rowCredit ≤ rowCredit * (16 * 128) := by
    have : (128 * g + 128) * rowCredit ≤ 2048 * rowCredit := Nat.mul_le_mul_right _ (by omega)
    rw [Nat.mul_comm rowCredit, ← Nat.add_mul]; exact this
  have key := Transfers.wp_waitBatchMulO (countersEmb (U := UU)) 𝒱₀ (thr d i) none (defs := defs₀ (F := F)) (sem := arg9.sem) (srcw := tabAll tabM) (dstw := rowsAt rowM g')
    (hsrc := View.wordExact_bits rfl) (hdst := View.wordExact_bits rfl) (k := fun _ => Prog.ret PUnit.unit) (none : HIx 1) (N := rowCredit) 128 (credit_rows g')
    (D := gotAt d i qT T I R) (j := 16 * 128) (u := 128 * g * rowCredit) hu (O := O) (W := W)
    (Q := fun _ => iprop(Transfers.Batch (countersEmb (U := UU)) (thr d i) (.dma arg9.sem) (none : HIx 1) rowCredit (gotAt d i qT T I R) (16 * 128) (128 * (g + 1) * rowCredit)
            ∗ owes (thr d i) O (insert (SemLoc.dma arg9.sem, none) W)))
  rw [show 128 * g * rowCredit + 128 * rowCredit = 128 * (g + 1) * rowCredit by rw [← Nat.add_mul, Nat.mul_add, Nat.mul_one]] at key
  iintro ⟨Hm, HB, HO⟩
  iapply (show _ ⊢ wp frame (wpE (defs₀ (F := F)) 𝒱₀ (thr d i) none) Set.univ (await i tabM rowM arg9 g') _ from key.trans (by
    iintro K
    iapply K
    iintro H
    sl_step
    iexact H))
  isplitl [HB]; · iexact HB
  isplitl [HO]; · iexact HO
  iexact Hm

end Batch

end Cert.Proof.Lsh

end
-- ==== Proof.Gather16.lean ====
/- One batch of gathers: all issued, then all waited for. -/
module

public import proofs.«01_k».proof.Proof.Gathers

@[expose] public section

set_option maxRecDepth 16384

noncomputable section

namespace Cert.Proof.Lsh

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.ValueIdx

/-- Equal credits add up. -/
theorem cred_join {A : Type} [DecidableEq A] (g : GSem nD τ sig) (ι : HIx 1) (a : ℕ) (S : Finset A) :
    bigSep S (fun _ => cred (tallyAt g ι a)) ⊢ (cred (tallyAt g ι (S.card * a)) : sProp (MM F)) := by
  induction S using Finset.induction_on with
  | empty =>
    rw [BI.bigSep_empty, Finset.card_empty, Nat.zero_mul, tallyAt_zero, cred_zero]; exact Entails.of_eq rfl
  | insert x S hx ih =>
    rw [BI.bigSep_insert hx, Finset.card_insert_of_notMem hx, Nat.add_mul, Nat.one_mul, Nat.add_comm, ← tallyAt_add]
    exact (sep_mono_right ih).trans (cred_add _ _).2

theorem lanes_univ : lanes.toFinset = Finset.univ := by decide

section Batch

variable (d : Dev nD) (i : grid2.Coords) (arg9 : DmaSems sig S_)
variable (qT : PosShare TreeShare) (T : S8388608x16.Idx → F .f32) (I : S16x128.Idx → BitVec 32) (R : S2048x16.Idx → F .f32)

/-- The rows' scratch is its sixteen gathers' rows. -/
theorem rows_split (f : S2048x16.Idx → F .f32) :
    ((rowM.view.loc (thr d i) ↦{fullShare} f) : sProp (MM F))
      = bigSep Finset.univ fun g : Fin 16 => (rowsAt rowM g).view.loc (thr d i) ↦[(rowsAt rowM g).view.set]{fullShare} f := by
  have hu : (Finset.univ : Finset S2048x16.Idx) = Finset.univ.biUnion fun g : Fin 16 => (rowsAt rowM g).view.set := by
    ext x
    simp only [Finset.mem_univ, true_iff, Finset.mem_biUnion, true_and]
    exact ⟨⟨(x 0).val / 128, Nat.div_lt_of_lt_mul (x 0).isLt⟩, (mem_rowsAt _ x).mpr rfl⟩
  refine (congrArg (fun S : Finset S2048x16.Idx => (rowM.view.loc (thr d i) ↦[S]{fullShare} f : sProp (MM F))) hu).trans ?_
  exact pointsTo_biUnion (ℓ := rowM.view.loc (thr d i)) Finset.univ (fun g : Fin 16 => (rowsAt rowM g).view.set) fun g _ g' _ h =>
    Finset.disjoint_left.mpr fun x hx hx' => h (Fin.ext (((mem_rowsAt g x).mp hx).symm.trans ((mem_rowsAt g' x).mp hx')))

/-- What the table's and the list's shares keep back while the gathers hold theirs. -/
def kept : sProp (MM F) :=
  iprop((bigSep Finset.univ fun g : Fin 16 => (tabAll tabM).view.loc (thr d i) ↦[Finset.univ \ (tabAll tabM).view.set]{pieceOf qT 16 (by decide) g} T)
    ∗ bigSep Finset.univ fun g : Fin 16 => (idxRow idxM g).view.loc (thr d i) ↦[Finset.univ \ (idxRow idxM g).view.set]{pieceOf fullShare 16 (by decide) g} I)

/-- A buffer's share in sixteen pieces, each parted at a set. -/
theorem deal_share (ℓ : Loc nD τ sig) (S : Fin 16 → Finset (Idx ℓ)) (q : PosShare TreeShare) (f : Buf (Elt F) ℓ) :
    ((ℓ ↦{q} f) : sProp (MM F)) = iprop((bigSep Finset.univ fun g => ℓ ↦[S g]{pieceOf q 16 (by decide) g} f)
      ∗ (bigSep Finset.univ fun g => ℓ ↦[Finset.univ \ S g]{pieceOf q 16 (by decide) g} f)) := by
  refine (pointsTo_piecesOf Finset.univ f (o := 16) (by decide) q).trans (Eq.trans ?_ (BI.bigSep_sep _ _ _))
  refine congrArg (bigSep Finset.univ) ?_
  funext g
  exact BI.Entails.antisymm (pointsTo_split_subset (Finset.subset_univ _)).1 (pointsTo_split_subset (Finset.subset_univ _)).2

/-- Dealing the buffers out to the gathers. -/
theorem deal (γ : Fin (16 * 128) → ℕ) :
    (iprop((tabM.view.loc (thr d i) ↦{qT} T) ∗ (idxM.view.loc (thr d i) ↦{fullShare} I) ∗ (rowM.view.loc (thr d i) ↦{fullShare} R)
        ∗ bigSep Finset.univ fun t => count (countersEmb (U := UU)) (γ t) 0) : sProp (MM F))
      ⊢ iprop((bigSep Finset.univ fun g => issueNeeds d i qT T I R arg9.sem γ g) ∗ kept d i qT T I) := by
  have hC : (bigSep Finset.univ (fun t : Fin (16 * 128) => count (countersEmb (U := UU)) (γ t) 0) : sProp (MM F))
      ⊢ bigSep Finset.univ fun g : Fin 16 => bigSep Finset.univ fun j : Fin 128 => count (countersEmb (U := UU)) (γ (finProdFinEquiv (g, j))) 0 :=
    Entails.of_eq ((BI.bigSep_univ_equiv finProdFinEquiv _).trans (BI.bigSep_univ_prod _))
  iintro ⟨HT, HI, HR, HC⟩
  ihave HC := hC $$ HC
  ihave HR := (Entails.of_eq (rows_split d i R)) $$ HR
  ihave HT := (Entails.of_eq (deal_share (tabM.view.loc (thr d i)) (fun _ => (tabAll tabM).view.set) qT T)) $$ HT
  ihave HI := (Entails.of_eq (deal_share (idxM.view.loc (thr d i)) (fun g => (idxRow idxM g).view.set) fullShare I)) $$ HI
  icases HT with ⟨HT, HT'⟩
  icases HI with ⟨HI, HI'⟩
  unfold kept issueNeeds
  isplitr [HT' HI']
  · ihave H := Transfers.bigSep_sep_in _ _ _ $$ [HI HC]; · isplitl [HI] <;> iassumption
    ihave H := Transfers.bigSep_sep_in _ _ _ $$ [HR H]; · isplitl [HR] <;> iassumption
    iapply (Transfers.bigSep_sep_in _ _ _)
    isplitl [HT] <;> iassumption
  · isplitl [HT'] <;> iassumption

/-- Everything back: the rows gathered. -/
theorem collect :
    (iprop(bigSep Finset.univ (gotAt d i qT T I R) ∗ kept d i qT T I) : sProp (MM F))
      ⊢ iprop((tabM.view.loc (thr d i) ↦{qT} T) ∗ (idxM.view.loc (thr d i) ↦{fullShare} I) ∗ (rowM.view.loc (thr d i) ↦{fullShare} (gathered T I))) := by
  have hD : (bigSep Finset.univ (gotAt d i qT T I R) : sProp (MM F))
      ⊢ bigSep Finset.univ fun g : Fin 16 => bigSep Finset.univ fun j : Fin 128 => got d i qT T I R g j := by
    refine (Entails.of_eq ((BI.bigSep_univ_equiv finProdFinEquiv _).trans (BI.bigSep_univ_prod _))).trans (BI.bigSep_mono fun g _ => BI.bigSep_mono fun j _ => ?_)
    have e : gotAt d i qT T I R (finProdFinEquiv (g, j)) = got d i qT T I R g j := by unfold gotAt; rw [Equiv.symm_apply_apply]
    exact Entails.of_eq e
  have hw (g : Fin 16) : ((rowsAt rowM g).view.loc (thr d i) ↦[(rowsAt rowM g).view.set]{fullShare}
        ((rowsAt rowM g).view.write (Elt F) R (fun y => gathered T I ((rowsAt rowM g).view.emb y)) Finset.univ) : sProp (MM F))
      ⊢ (rowsAt rowM g).view.loc (thr d i) ↦[(rowsAt rowM g).view.set]{fullShare} (gathered T I) :=
    Entails.of_eq (pointsTo_congr fun x hx => by
      obtain ⟨y, hy⟩ := View.exists_emb_of_mem_set _ hx
      rw [← hy]
      exact View.write_emb_of_mem (Val := Elt F) (v := (rowsAt rowM g).view) R _ (Finset.mem_univ y))
  have hg (g : Fin 16) : (bigSep Finset.univ (fun j : Fin 128 => got d i qT T I R g j) : sProp (MM F))
      ⊢ iprop(((rowsAt rowM g).view.loc (thr d i) ↦[(rowsAt rowM g).view.set]{fullShare} (gathered T I))
        ∗ ((tabAll tabM).view.loc (thr d i) ↦[(tabAll tabM).view.set]{pieceOf qT 16 (by decide) g} T)
        ∗ ((idxRow idxM g).view.loc (thr d i) ↦[(idxRow idxM g).view.set]{pieceOf fullShare 16 (by decide) g} I)) :=
    (rowGot_join (thr d i) (tabAll tabM) (rowsAt rowM g) gathers_S8388608x16_S128x16 (idxRow idxM g) rfl (pieceOf qT 16 (by decide) g) (pieceOf fullShare 16 (by decide) g)
      T R I (fun y => gathered T I ((rowsAt rowM g).view.emb y)) (by decide)).trans (sep_mono_left (hw g))
  unfold kept
  iintro ⟨H, HT', HI'⟩
  ihave H := (hD.trans (BI.bigSep_mono fun g _ => hg g)) $$ H
  ihave H := Transfers.bigSep_sep_out _ _ _ $$ H
  icases H with ⟨HR, H⟩
  ihave H := Transfers.bigSep_sep_out _ _ _ $$ H
  icases H with ⟨HT, HI⟩
  isplitl [HT HT']
  · iapply (Entails.of_eq (deal_share (tabM.view.loc (thr d i)) (fun _ => (tabAll tabM).view.set) qT T).symm)
    isplitl [HT] <;> iassumption
  isplitl [HI HI']
  · iapply (Entails.of_eq (deal_share (idxM.view.loc (thr d i)) (fun g => (idxRow idxM g).view.set) fullShare I).symm)
    isplitl [HI] <;> iassumption
  · iapply (Entails.of_eq (rows_split d i (gathered T I)).symm)
    iexact HR

/-- All sixteen gathers: the rows' scratch filled with the table's rows the codes name. -/
theorem wp_gathers (O : CellTallies nD τ sig (HIx 1)) (W : Waits sig (HIx 1)) (hI : ∀ x, (I x).toNat < 8388608) {α : Type}
    (k : PUnit → TileProg F i α) (Q : α → sProp (MM F)) :
    (iprop(Transfers.MayWaits (thr d i) (default : HIx 1) O ∗ semVal (thr d i, SemLoc.dma arg9.sem) 0
        ∗ (tabM.view.loc (thr d i) ↦{qT} T) ∗ (idxM.view.loc (thr d i) ↦{fullShare} I) ∗ (rowM.view.loc (thr d i) ↦{fullShare} R) ∗ owes (thr d i) O W
        ∗ (iprop(semVal (thr d i, SemLoc.dma arg9.sem) 0
            ∗ (tabM.view.loc (thr d i) ↦{qT} T) ∗ (idxM.view.loc (thr d i) ↦{fullShare} I) ∗ (rowM.view.loc (thr d i) ↦{fullShare} (gathered T I))
            ∗ ∃ W', ⌜∀ p ∈ W', p ∈ W ∨ p.2 = none⌝ ∗ owes (thr d i) O W') -∗ wp frame (wpE (defs₀ (F := F)) 𝒱₀ (thr d i) none) Set.univ (k ⟨⟩) Q)) : sProp (MM F))
      ⊢ wp frame (wpE (defs₀ (F := F)) 𝒱₀ (thr d i) none) Set.univ (each i (issue i tabM idxM rowM arg9) lanes >>= fun _ => each i (await i tabM rowM arg9) lanes >>= k) Q := by
  haveI : ∀ t, Storable (upEmb : UEmb _ (MM F)) (gotAt d i qT T I R t) := fun t => rowGot_storable _ _ _ _ _ _ _ _ _ _ _ _ _ _
  rw [wp_bind]
  iintro ⟨#Hmw, Hv, HT, HI, HR, HO, HK⟩
  imod (Transfers.batch_alloc (countersEmb (U := UU)) (g := (thr d i, SemLoc.dma arg9.sem)) rowCredit (gotAt d i qT T I R) (E := Set.univ)) $$ Hv with ⟨%γ, %δ, %κ, #Hinv, Hδ, Hγ⟩
  ihave H := (deal d i arg9 qT T I R γ) $$ [HT HI HR Hγ]
  · isplitl [HT]; · iexact HT
    isplitl [HI]; · iexact HI
    isplitl [HR] <;> iassumption
  icases H with ⟨Hn, Hk⟩
  iapply (wp_wand_r frame _ _)
  isplitl [Hn]
  · iapply (wp_each_sep d i (issue i tabM idxM rowM arg9)
      (inv κ (Transfers.batchBody (countersEmb (U := UU)) (thr d i, SemLoc.dma arg9.sem) rowCredit (gotAt d i qT T I R) γ δ))
      (by iintro #H; isplitl []; · iexact H
          iexact H)
      (issueNeeds d i qT T I R arg9.sem γ) _ (wp_issue d i qT T I R arg9 γ δ κ hI) lanes (by decide))
    isplitr; · iexact Hinv
    rw [lanes_univ]
    iexact Hn
  · iintro %_ Hc
    rw [lanes_univ]
    ihave Hc := (cred_join (F := F) (thr d i, SemLoc.dma arg9.sem) none (128 * rowCredit) (Finset.univ : Finset (Fin 16))) $$ Hc
    ihave HB := (show iprop(inv κ (Transfers.batchBody (countersEmb (U := UU)) (thr d i, SemLoc.dma arg9.sem) rowCredit (gotAt d i qT T I R) γ δ)
        ∗ count (countersEmb (U := UU)) δ 0 ∗ cred (tallyAt (thr d i, SemLoc.dma arg9.sem) (none : HIx 1) ((Finset.univ : Finset (Fin 16)).card * (128 * rowCredit))))
      ⊢ Transfers.Batch (countersEmb (U := UU)) (thr d i) (.dma arg9.sem) (none : HIx 1) rowCredit (gotAt d i qT T I R) (16 * 128) (128 * 0 * rowCredit) from by
        have hp : Transfers.pending (n := 16 * 128) (16 * 128) = ∅ := by
          ext t; have := t.isLt; simp only [Transfers.pending, Finset.mem_filter, Finset.mem_univ, true_and, Finset.notMem_empty, iff_false]; omega
        unfold Transfers.Batch
        iintro ⟨Hi, Hd, Hc⟩
        iexists γ, δ, κ
        isplitl [Hi]; · iexact Hi
        isplitr
        · rw [hp, BI.bigSep_empty]; iempintro
        isplitl [Hd]
        · rw [Nat.mul_zero, Nat.zero_mul]; iexact Hd
        · rw [Nat.mul_zero, Nat.zero_mul, Nat.sub_zero, Nat.mul_assoc, Finset.card_univ, Fintype.card_fin]; iexact Hc) $$ [Hδ Hc]
    · isplitr; · iexact Hinv
      isplitl [Hδ] <;> iassumption
    rw [wp_bind]
    iapply (wp_wand_r frame _ _)
    isplitl [HB HO]
    · iapply (wp_lanes (d := d) (i := i) (await i tabM rowM arg9) (fun g => iprop(Transfers.MayWaits (thr d i) (default : HIx 1) O
        ∗ Transfers.Batch (countersEmb (U := UU)) (thr d i) (.dma arg9.sem) (none : HIx 1) rowCredit (gotAt d i qT T I R) (16 * 128) (128 * g * rowCredit)
        ∗ ∃ W', ⌜∀ p ∈ W', p ∈ W ∨ p.2 = none⌝ ∗ owes (thr d i) O W')) fun j => by
          iintro ⟨#Hmw, HB, %W', %hW', HO⟩
          ihave Hm := (Transfers.MayWaits.elim (SemLoc.dma arg9.sem)) $$ Hmw
          iapply (wp_wand_r frame _ _)
          isplitl [HB HO Hm]
          · iapply (wp_await d i qT T I R arg9 O W' j.val j j.isLt)
            isplitl [Hm]; · iexact Hm
            isplitl [HB] <;> iassumption
          · iintro %_ ⟨HB, HO⟩
            isplitr; · iexact Hmw
            isplitl [HB]; · iexact HB
            iexists (insert (SemLoc.dma arg9.sem, (none : HIx 1)) W')
            isplitr
            · ipureintro
              intro p hp
              rcases Finset.mem_insert.mp hp with rfl | hp
              · exact Or.inr rfl
              · exact hW' p hp
            · iexact HO)
      isplitr; · iexact Hmw
      isplitl [HB]; · iexact HB
      iexists W
      isplitr
      · ipureintro; exact fun p hp => Or.inl hp
      · iexact HO
    · iintro %_ ⟨-, HB, HO⟩
      rw [show 128 * 16 * rowCredit = rowCredit * (16 * 128) from Nat.mul_comm _ _]
      imod (Transfers.batch_collect' (countersEmb (U := UU)) (thr d i) rowCredit_pos) $$ HB with ⟨HD, Hv⟩
      ihave H := (collect d i qT T I R) $$ [HD Hk]; · isplitl [HD] <;> iassumption
      icases H with ⟨HT, HI, HR⟩
      iapply HK
      isplitl [Hv]; · iexact Hv
      isplitl [HT]; · iexact HT
      isplitl [HI]; · iexact HI
      isplitl [HR]; · iexact HR
      iexact HO

end Batch

end Cert.Proof.Lsh

end
-- ==== Proof.Tile.lean ====
/- One batch of a tile, and the whole tile. -/
module

public import proofs.«01_k».proof.Proof.Gather16

@[expose] public section

set_option maxRecDepth 16384

noncomputable section

namespace Cert.Proof.Lsh

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.ValueIdx

/-- The code of result row `r`. -/
def codeAt (C : S4096x128.Idx → BitVec 32) (r : Fin 524288) : Fin 8388608 :=
  ⟨(C (ix2 ⟨r.val / 128, Nat.div_lt_of_lt_mul r.isLt⟩ ⟨r.val % 128, Nat.mod_lt _ (by decide)⟩)).toNat % 8388608, Nat.mod_lt _ (by decide)⟩

/-- The probability of result row `r`. -/
def probAt (P : S4096x128.Idx → F .f32) (r : Fin 524288) : F .f32 :=
  P (ix2 ⟨r.val / 128, Nat.div_lt_of_lt_mul r.isLt⟩ ⟨r.val % 128, Nat.mod_lt _ (by decide)⟩)

/-- The SparseCore call's result: each row the table's row its code names, times its probability. -/
def outVal (T : S8388608x16.Idx → F .f32) (C : S4096x128.Idx → BitVec 32) (P : S4096x128.Idx → F .f32) : S524288x16.Idx → F .f32 := fun x =>
  FloatOps.mulf (T (ix2 (codeAt C (x 0)) (x 1))) (probAt P (x 0))

section Tile

variable (d : Dev nD) (i : grid2.Coords)

/-- The first of batch `n`'s rows of codes. -/
def codeRow0 (n : Fin 8) : ℕ := 256 * (i 1).val + 128 * (i 0).val + 16 * n.val

theorem codeRow0_lt (n : Fin 8) : codeRow0 i n + 16 ≤ 4096 := by
  have h0 : (i 0).val < 2 := (i 0).isLt
  have h1 : (i 1).val < 16 := (i 1).isLt
  unfold codeRow0; omega

theorem off1_eq (n : Fin 8) : k2_off1 i (BitVec.ofNat 32 (16 * n.val)) = ![codeRow0 i n, 0] := k2_off1_eq i n

theorem off4_eq (n : Fin 8) : k2_off4 i (BitVec.ofNat 32 (16 * n.val)) = ![128 * codeRow0 i n, 0] := by
  rw [k2_off4_eq i n]
  unfold codeRow0
  congr 1
  omega

/-- The codes batch `n` reads. -/
theorem codeRows_read (C : S4096x128.Idx → BitVec 32) (n : Fin 8) (x : S16x128.Idx) :
    (codeRows i codeM n).view.read (Elt F) C x
      = C (ix2 ⟨codeRow0 i n + (x 0).val, by have := codeRow0_lt i n; have : (x 0).val < 16 := (x 0).isLt; omega⟩ (x 1)) := by
  refine congrArg C (Shape.idx_ext₂ ?_ ?_)
  · exact (ValueKit.rect_emb_unit_val (s := S4096x128) _ S16x128.size (k2_off1_inb i n) x 0).trans (congrArg (· + (x 0).val) (congrFun (off1_eq i n) 0))
  · exact (ValueKit.rect_emb_unit_val (s := S4096x128) _ S16x128.size (k2_off1_inb i n) x 1).trans
      ((congrArg (· + (x 1).val) (congrFun (off1_eq i n) 1)).trans (Nat.zero_add _))

/-- The probabilities batch `n` reads. -/
theorem probRows_read (P : S4096x128.Idx → F .f32) (n : Fin 8) (x : S16x128.Idx) :
    (probRows i probM n).view.read (Elt F) P x
      = P (ix2 ⟨codeRow0 i n + (x 0).val, by have := codeRow0_lt i n; have : (x 0).val < 16 := (x 0).isLt; omega⟩ (x 1)) := by
  refine congrArg P (Shape.idx_ext₂ ?_ ?_)
  · exact (ValueKit.rect_emb_unit_val (s := S4096x128) _ S16x128.size (k2_off1_inb i n) x 0).trans (congrArg (· + (x 0).val) (congrFun (off1_eq i n) 0))
  · exact (ValueKit.rect_emb_unit_val (s := S4096x128) _ S16x128.size (k2_off1_inb i n) x 1).trans
      ((congrArg (· + (x 1).val) (congrFun (off1_eq i n) 1)).trans (Nat.zero_add _))

/-- The rows batch `n` writes. -/
theorem outRows_emb (n : Fin 8) (y : S2048x16.Idx) :
    ((outRows i outM n).view.emb y : S524288x16.Idx)
      = ix2 ⟨128 * codeRow0 i n + (y 0).val, by have := codeRow0_lt i n; have : (y 0).val < 2048 := (y 0).isLt; omega⟩ (y 1) := by
  refine Shape.idx_ext₂ ?_ ?_
  · exact (ValueKit.rect_emb_unit_val (s := S524288x16) _ S2048x16.size (k2_off4_inb i n) y 0).trans (congrArg (· + (y 0).val) (congrFun (off4_eq i n) 0))
  · exact (ValueKit.rect_emb_unit_val (s := S524288x16) _ S2048x16.size (k2_off4_inb i n) y 1).trans
      ((congrArg (· + (y 1).val) (congrFun (off4_eq i n) 1)).trans (Nat.zero_add _))

/-- What batch `n` leaves in its rows is the call's result there. -/
theorem batch_val (T : S8388608x16.Idx → F .f32) (C : S4096x128.Idx → BitVec 32) (P : S4096x128.Idx → F .f32) (n : Fin 8) (y : S2048x16.Idx) :
    scaled (gathered T ((codeRows i codeM n).view.read (Elt F) C)) ((probRows i probM n).view.read (Elt F) P) 2048 y
      = outVal T C P ((outRows i outM n).view.emb y) := by
  have hy : (y 0).val < 2048 := (y 0).isLt
  have hr := codeRow0_lt i n
  unfold scaled
  rw [if_pos hy, outRows_emb]
  unfold outVal gathered rowProb codeAt probAt
  have e : (ix2 ⟨codeRow0 i n + (y 0).val / 128, by omega⟩ ⟨(y 0).val % 128, by omega⟩ : S4096x128.Idx)
      = ix2 ⟨(128 * codeRow0 i n + (y 0).val) / 128, by omega⟩ ⟨(128 * codeRow0 i n + (y 0).val) % 128, by omega⟩ :=
    Shape.idx_ext₂ (show codeRow0 i n + (y 0).val / 128 = (128 * codeRow0 i n + (y 0).val) / 128 by omega)
      (show (y 0).val % 128 = (128 * codeRow0 i n + (y 0).val) % 128 by omega)
  have eC := (codeRows_read (F := F) i C n (ix2 ⟨(y 0).val / 128, by omega⟩ ⟨(y 0).val % 128, by omega⟩)).trans (congrArg C e)
  have eP := (probRows_read i P n (ix2 ⟨(y 0).val / 128, by omega⟩ ⟨(y 0).val % 128, by omega⟩)).trans (congrArg P e)
  have eT : (ix2 ⟨((codeRows i codeM n).view.read (Elt F) C (ix2 ⟨(y 0).val / 128, by omega⟩ ⟨(y 0).val % 128, by omega⟩)).toNat % 8388608, by omega⟩ (y 1) : S8388608x16.Idx)
      = ix2 ⟨(C (ix2 ⟨(128 * codeRow0 i n + (y 0).val) / 128, by omega⟩ ⟨(128 * codeRow0 i n + (y 0).val) % 128, by omega⟩)).toNat % 8388608, by omega⟩ (y 1) :=
    Shape.idx_ext₂ (congrArg (fun w : BitVec 32 => w.toNat % 8388608) eC) rfl
  exact congrArg₂ (FloatOps.mulf (F := F) (φ := .f32)) (congrArg T eT) eP

/-- A block written whole holds what was written. -/
theorem block_written (n : Fin 8) (f : Buf (Elt F) ((thr d i).loc main_v21_scv)) (R : Buf (Elt F) ((thr d i).loc cc2_scratch2)) (y : S2048x16.Idx) :
    (outRows i outM n).view.writes (Elt F) f [⟨Rect.whole S2048x16, R⟩] ((outRows i outM n).view.emb y) = R y := by
  have h := View.read_writes_whole (Val := Elt F) (outRows i outM n).view f R
  have h' := congrFun h y
  rw [View.read_apply] at h'
  exact (cast_eq _ _).symm.trans h'

variable (q : PosShare TreeShare) (T : S8388608x16.Idx → F .f32) (C : S4096x128.Idx → BitVec 32) (P : S4096x128.Idx → F .f32)

/-- Batch `n`'s rows of the result holding `f`. -/
abbrev outBlock (n : Fin 8) (f : S524288x16.Idx → F .f32) : sProp (MM F) :=
  (outRows i outM n).view.loc (thr d i) ↦[(outRows i outM n).view.set]{fullShare} f

/-- What a tile holds between its batches. -/
def tileRes (arg9 : DmaSems sig S_) (O : CellTallies nD τ sig (HIx 1)) (W : Waits sig (HIx 1)) : sProp (MM F) :=
  iprop(Transfers.MayWaits (thr d i) (default : HIx 1) O ∗ (codeM.view.loc (thr d i) ↦{q} C) ∗ (probM.view.loc (thr d i) ↦{q} P) ∗ (tabM.view.loc (thr d i) ↦{q} T)
    ∗ (∃ f, idxM.view.loc (thr d i) ↦{fullShare} f) ∗ (∃ f, pM.view.loc (thr d i) ↦{fullShare} f) ∗ (∃ f, rowM.view.loc (thr d i) ↦{fullShare} f)
    ∗ semVal (thr d i, SemLoc.dma arg9.sem) 0 ∗ ∃ W', ⌜∀ p ∈ W', p ∈ W ∨ p.2 = none⌝ ∗ owes (thr d i) O W')

/-- The three scoped semaphores of a batch, at zero. -/
abbrev sems3 (s0 s1 s2 : DmaSems sig S_) : sProp (MM F) :=
  iprop(semVal (thr d i, SemLoc.dma s0.sem) 0 ∗ semVal (thr d i, SemLoc.dma s1.sem) 0 ∗ semVal (thr d i, SemLoc.dma s2.sem) 0)

/-- One more recorded wait without an index. -/
theorem waits_insert {W W' : Waits sig (HIx 1)} (s : SemLoc sig) (h : ∀ p ∈ W', p ∈ W ∨ p.2 = none) : ∀ p ∈ insert (s, (none : HIx 1)) W', p ∈ W ∨ p.2 = none := by
  intro p hp
  rcases Finset.mem_insert.mp hp with rfl | hp
  · exact Or.inr rfl
  · exact h p hp

/-- One batch: its rows of the result written. -/
theorem wp_batch (arg9 s0 s1 s2 : DmaSems sig S_) (n : Fin 8) (f : S524288x16.Idx → F .f32) (O : CellTallies nD τ sig (HIx 1)) (W : Waits sig (HIx 1))
    (hC : ∀ x, (C x).toNat < 8388608) :
    iprop(tileRes d i q T C P arg9 O W ∗ outBlock d i n f ∗ sems3 d i s0 s1 s2)
      ⊢ wp frame (wpE (defs₀ (F := F)) 𝒱₀ (thr d i) none) Set.univ
          (batch i tabM codeM probM outM idxM (Memref.isWhole_whole _) pM (Memref.isWhole_whole _) rowM (Memref.isWhole_whole _) arg9 s0 s1 s2 n)
          fun _ => iprop(tileRes d i q T C P arg9 O W ∗ outBlock d i n (outVal T C P) ∗ sems3 d i s0 s1 s2) := by
  unfold batch tileRes
  iintro ⟨⟨#Hmw, HC, HP, HT, ⟨%fi, Hi⟩, ⟨%fp, Hp⟩, ⟨%fr, Hr⟩, Hv, %W₀, %h₀, HO⟩, Hout, Hs0, Hs1, Hs2⟩
  rw [wp_bind]
  iapply (wp_wand_r frame _ _)
  isplitl [HC Hi Hs0 HO]
  · iapply (wp_copyCodes d i n s0 q C fi O W₀)
    isplitr; · iexact Hmw
    isplitl [HC]; · iexact HC
    isplitl [Hi]; · iexact Hi
    isplitl [Hs0] <;> iassumption
  iintro %_ ⟨HC, Hi, Hs0, HO⟩
  rw [wp_bind]
  iapply (wp_wand_r frame _ _)
  isplitl [HP Hp Hs1 HO]
  · iapply (wp_copyProbs d i n s1 q P fp O _)
    isplitr; · iexact Hmw
    isplitl [HP]; · iexact HP
    isplitl [Hp]; · iexact Hp
    isplitl [Hs1] <;> iassumption
  iintro %_ ⟨HP, Hp, Hs1, HO⟩
  iapply (wp_gathers d i arg9 q T ((codeRows i codeM n).view.read (Elt F) C) fr O _ (fun x => by rw [codeRows_read]; exact hC _))
  isplitr; · iexact Hmw
  isplitl [Hv]; · iexact Hv
  isplitl [HT]; · iexact HT
  isplitl [Hi]; · iexact Hi
  isplitl [Hr]; · iexact Hr
  isplitl [HO]; · iexact HO
  iintro ⟨Hv, HT, Hi, Hr, %W₁, %h₁, HO⟩
  rw [wp_bind]
  iapply (wp_wand_r frame _ _)
  isplitl [Hp Hr]
  · iapply (wp_scale d i _ _)
    isplitl [Hp] <;> iassumption
  iintro %_ ⟨Hp, Hr⟩
  iapply (wp_wand_r frame _ _)
  isplitl [Hr Hout Hs2 HO]
  · iapply (wp_copyOut d i n s2 _ f O W₁)
    isplitr; · iexact Hmw
    isplitl [Hr]; · iexact Hr
    isplitl [Hout]; · iexact Hout
    isplitl [Hs2] <;> iassumption
  iintro %_ ⟨Hr, Hout, Hs2, HO⟩
  isplitl [HC HP HT Hi Hp Hr Hv HO]
  · isplitr; · iexact Hmw
    isplitl [HC]; · iexact HC
    isplitl [HP]; · iexact HP
    isplitl [HT]; · iexact HT
    isplitl [Hi]; · iexists _; iexact Hi
    isplitl [Hp]; · iexists _; iexact Hp
    isplitl [Hr]; · iexists _; iexact Hr
    isplitl [Hv]; · iexact Hv
    iexists (insert (SemLoc.dma s2.sem, (none : HIx 1)) W₁)
    isplitr
    · ipureintro
      refine waits_insert _ fun p hp => ?_
      rcases h₁ p hp with h | h
      · exact waits_insert _ (waits_insert _ h₀) p h
      · exact Or.inr h
    · iexact HO
  isplitl [Hout]
  · iapply (Entails.of_eq (pointsTo_congr fun x hx => by
      obtain ⟨y, hy⟩ := View.exists_emb_of_mem_set _ hx
      subst hy
      exact (block_written d i n f _ y).trans (batch_val i T C P n y)))
    iexact Hout
  isplitl [Hs0]; · iexact Hs0
  isplitl [Hs1] <;> iassumption

/-- The scoped semaphores of a tile, at zero. -/
abbrev tileSems : sProp (MM F) :=
  iprop(sems3 d i cc2_scoped0 cc2_scoped1 cc2_scoped2 ∗ sems3 d i cc2_scoped3 cc2_scoped4 cc2_scoped5 ∗ sems3 d i cc2_scoped6 cc2_scoped7 cc2_scoped8 ∗ sems3 d i cc2_scoped9 cc2_scoped10 cc2_scoped11 ∗ sems3 d i cc2_scoped12 cc2_scoped13 cc2_scoped14 ∗ sems3 d i cc2_scoped15 cc2_scoped16 cc2_scoped17 ∗ sems3 d i cc2_scoped18 cc2_scoped19 cc2_scoped20 ∗ sems3 d i cc2_scoped21 cc2_scoped22 cc2_scoped23)

/-- A tile's eight blocks of the result holding `f`. -/
abbrev outBlocks (f : S524288x16.Idx → F .f32) : sProp (MM F) :=
  iprop(outBlock d i 0 f ∗ outBlock d i 1 f ∗ outBlock d i 2 f ∗ outBlock d i 3 f ∗ outBlock d i 4 f ∗ outBlock d i 5 f ∗ outBlock d i 6 f ∗ outBlock d i 7 f)

/-- The whole tile: its eight blocks of the result written. -/
theorem wp_tile (f : S524288x16.Idx → F .f32) (O : CellTallies nD τ sig (HIx 1)) (W : Waits sig (HIx 1)) (hC : ∀ x, (C x).toNat < 8388608) :
    iprop(tileRes d i q T C P cc2_scratch3 O W ∗ outBlocks d i f ∗ tileSems d i)
      ⊢ wp frame (wpE (defs₀ (F := F)) 𝒱₀ (thr d i) none) Set.univ
          (cc2__gather_scale_body (F := F) i tabM (Memref.isWhole_whole _) codeM (Memref.isWhole_whole _) probM (Memref.isWhole_whole _) outM (Memref.isWhole_whole _)
            idxM (Memref.isWhole_whole _) pM (Memref.isWhole_whole _) rowM (Memref.isWhole_whole _) cc2_scratch3 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23)
          fun _ => iprop(tileRes d i q T C P cc2_scratch3 O W ∗ outBlocks d i (outVal T C P) ∗ tileSems d i) := by
  rw [body_eq]
  iintro ⟨HR, ⟨B0, B1, B2, B3, B4, B5, B6, B7⟩, S0, S1, S2, S3, S4, S5, S6, S7⟩
  rw [wp_bind]
  iapply (wp_wand_r frame _ _)
  isplitl [HR B0 S0]
  · iapply (wp_batch d i q T C P cc2_scratch3 cc2_scoped0 cc2_scoped1 cc2_scoped2 0 f O W hC)
    isplitl [HR]; · iexact HR
    isplitl [B0] <;> iassumption
  iintro %_ ⟨HR, B0, S0⟩
  rw [wp_bind]
  iapply (wp_wand_r frame _ _)
  isplitl [HR B1 S1]
  · iapply (wp_batch d i q T C P cc2_scratch3 cc2_scoped3 cc2_scoped4 cc2_scoped5 1 f O W hC)
    isplitl [HR]; · iexact HR
    isplitl [B1] <;> iassumption
  iintro %_ ⟨HR, B1, S1⟩
  rw [wp_bind]
  iapply (wp_wand_r frame _ _)
  isplitl [HR B2 S2]
  · iapply (wp_batch d i q T C P cc2_scratch3 cc2_scoped6 cc2_scoped7 cc2_scoped8 2 f O W hC)
    isplitl [HR]; · iexact HR
    isplitl [B2] <;> iassumption
  iintro %_ ⟨HR, B2, S2⟩
  rw [wp_bind]
  iapply (wp_wand_r frame _ _)
  isplitl [HR B3 S3]
  · iapply (wp_batch d i q T C P cc2_scratch3 cc2_scoped9 cc2_scoped10 cc2_scoped11 3 f O W hC)
    isplitl [HR]; · iexact HR
    isplitl [B3] <;> iassumption
  iintro %_ ⟨HR, B3, S3⟩
  rw [wp_bind]
  iapply (wp_wand_r frame _ _)
  isplitl [HR B4 S4]
  · iapply (wp_batch d i q T C P cc2_scratch3 cc2_scoped12 cc2_scoped13 cc2_scoped14 4 f O W hC)
    isplitl [HR]; · iexact HR
    isplitl [B4] <;> iassumption
  iintro %_ ⟨HR, B4, S4⟩
  rw [wp_bind]
  iapply (wp_wand_r frame _ _)
  isplitl [HR B5 S5]
  · iapply (wp_batch d i q T C P cc2_scratch3 cc2_scoped15 cc2_scoped16 cc2_scoped17 5 f O W hC)
    isplitl [HR]; · iexact HR
    isplitl [B5] <;> iassumption
  iintro %_ ⟨HR, B5, S5⟩
  rw [wp_bind]
  iapply (wp_wand_r frame _ _)
  isplitl [HR B6 S6]
  · iapply (wp_batch d i q T C P cc2_scratch3 cc2_scoped18 cc2_scoped19 cc2_scoped20 6 f O W hC)
    isplitl [HR]; · iexact HR
    isplitl [B6] <;> iassumption
  iintro %_ ⟨HR, B6, S6⟩
  iapply (wp_wand_r frame _ _)
  isplitl [HR B7 S7]
  · iapply (wp_batch d i q T C P cc2_scratch3 cc2_scoped21 cc2_scoped22 cc2_scoped23 7 f O W hC)
    isplitl [HR]; · iexact HR
    isplitl [B7] <;> iassumption
  iintro %_ ⟨HR, B7, S7⟩
  isplitl [HR]; · iexact HR
  isplitl [B0 B1 B2 B3 B4 B5 B6 B7]
  · unfold outBlocks; iframe
  · unfold tileSems; iframe

end Tile

end Cert.Proof.Lsh

end
-- ==== Proof.Task.lean ====
/- What a vector subcore owns at the launch holds what its tile uses; the task of each vector subcore. -/
module

public import proofs.«01_k».proof.Proof.Tile
public import Idealize.ShloMosaic.Lib.SparseCore.Quiescent

@[expose] public section

set_option maxRecDepth 16384

noncomputable section

namespace Cert.Proof.Lsh

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.SparseCore.Cfg (ownBufs ownSems0 ownCells ownRefs mem_ownCells mem_ownRefs)

/-- The semaphores a tile uses. -/
def tileLocs : Finset (SemLoc sig) :=
  {SemLoc.dma cc2_scratch3.sem, SemLoc.dma cc2_scoped0.sem, SemLoc.dma cc2_scoped1.sem, SemLoc.dma cc2_scoped2.sem, SemLoc.dma cc2_scoped3.sem, SemLoc.dma cc2_scoped4.sem, SemLoc.dma cc2_scoped5.sem, SemLoc.dma cc2_scoped6.sem, SemLoc.dma cc2_scoped7.sem, SemLoc.dma cc2_scoped8.sem, SemLoc.dma cc2_scoped9.sem, SemLoc.dma cc2_scoped10.sem, SemLoc.dma cc2_scoped11.sem, SemLoc.dma cc2_scoped12.sem, SemLoc.dma cc2_scoped13.sem, SemLoc.dma cc2_scoped14.sem, SemLoc.dma cc2_scoped15.sem, SemLoc.dma cc2_scoped16.sem, SemLoc.dma cc2_scoped17.sem, SemLoc.dma cc2_scoped18.sem, SemLoc.dma cc2_scoped19.sem, SemLoc.dma cc2_scoped20.sem, SemLoc.dma cc2_scoped21.sem, SemLoc.dma cc2_scoped22.sem, SemLoc.dma cc2_scoped23.sem}

/-- Each is scoped to a vector subcore. -/
theorem tileLocs_scoped : ∀ s ∈ tileLocs, s.isScoped .scVector = true := by decide

/-- A family over the semaphores a tile uses, written out. -/
theorem tileLocs_sep (Φ : SemLoc sig → sProp (MM F)) :
    bigSep tileLocs Φ = iprop(Φ (SemLoc.dma cc2_scratch3.sem) ∗ Φ (SemLoc.dma cc2_scoped0.sem) ∗ Φ (SemLoc.dma cc2_scoped1.sem) ∗ Φ (SemLoc.dma cc2_scoped2.sem) ∗ Φ (SemLoc.dma cc2_scoped3.sem) ∗ Φ (SemLoc.dma cc2_scoped4.sem) ∗ Φ (SemLoc.dma cc2_scoped5.sem) ∗ Φ (SemLoc.dma cc2_scoped6.sem) ∗ Φ (SemLoc.dma cc2_scoped7.sem) ∗ Φ (SemLoc.dma cc2_scoped8.sem) ∗ Φ (SemLoc.dma cc2_scoped9.sem) ∗ Φ (SemLoc.dma cc2_scoped10.sem) ∗ Φ (SemLoc.dma cc2_scoped11.sem) ∗ Φ (SemLoc.dma cc2_scoped12.sem) ∗ Φ (SemLoc.dma cc2_scoped13.sem) ∗ Φ (SemLoc.dma cc2_scoped14.sem) ∗ Φ (SemLoc.dma cc2_scoped15.sem) ∗ Φ (SemLoc.dma cc2_scoped16.sem) ∗ Φ (SemLoc.dma cc2_scoped17.sem) ∗ Φ (SemLoc.dma cc2_scoped18.sem) ∗ Φ (SemLoc.dma cc2_scoped19.sem) ∗ Φ (SemLoc.dma cc2_scoped20.sem) ∗ Φ (SemLoc.dma cc2_scoped21.sem) ∗ Φ (SemLoc.dma cc2_scoped22.sem) ∗ Φ (SemLoc.dma cc2_scoped23.sem)) := by
  unfold tileLocs
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

section Own

variable (d : Dev nD) (i : grid2.Coords)

/-- The cells of a tile's semaphores. -/
def cellEmb : SemLoc sig ↪ GSem nD τ sig := ⟨fun s => (thr d i, s), fun a b h => (Prod.mk.inj h).2⟩

/-- The cells a vector subcore owns: its tile's, and the rest. -/
theorem ownSems_tile :
    (ownSems0 (thr d i) : sProp (MM F))
      = iprop((bigSep tileLocs fun s => semVal (thr d i, s) 0) ∗ bigSep (ownCells (thr d i) \ tileLocs.map (cellEmb d i)) fun g => semVal g 0) := by
  unfold SparseCore.Cfg.ownSems0
  have h : tileLocs.map (cellEmb d i) ⊆ ownCells (thr d i) := by
    intro g hg
    obtain ⟨s, hs, rfl⟩ := Finset.mem_map.mp hg
    exact (mem_ownCells (g := (thr d i, s))).mpr ⟨rfl, tileLocs_scoped s hs⟩
  rw [BI.bigSep_sdiff_split h, BI.bigSep_map]
  rfl

/-- The buffers a vector subcore owns: its tile's three, at some contents, and the rest. -/
theorem ownBufs_tile :
    (ownBufs (thr d i) : sProp (MM F))
      = iprop((∃ f, idxM.view.loc (thr d i) ↦{fullShare} f) ∗ (∃ f, pM.view.loc (thr d i) ↦{fullShare} f) ∗ (∃ f, rowM.view.loc (thr d i) ↦{fullShare} f)
          ∗ bigSep ((((ownRefs (τ := τ) (.scVector ((i 0).castLE hcore2) ((i 1).castLE hsub2))).erase ((Proc.scVector ((i 0).castLE hcore2) ((i 1).castLE hsub2)).devRef cc2_scratch0)).erase
              ((Proc.scVector ((i 0).castLE hcore2) ((i 1).castLE hsub2)).devRef cc2_scratch1)).erase ((Proc.scVector ((i 0).castLE hcore2) ((i 1).castLE hsub2)).devRef cc2_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector ((i 0).castLE hcore2) ((i 1).castLE hsub2))
    (b := (Proc.scVector ((i 0).castLE hcore2) ((i 1).castLE hsub2)).devRef cc2_scratch0) rfl)).trans ?_
  rw [SparseCore.bigSep_erase' (Finset.mem_erase.mpr ⟨fun e => absurd (Proc.devRef_injective _ e) (show (cc2_scratch1 : Ref sig .scVector) ≠ cc2_scratch0 by decide),
      SparseCore.Cfg.mem_ownRefs_of_owner (p := Proc.scVector ((i 0).castLE hcore2) ((i 1).castLE hsub2)) (b := (Proc.scVector ((i 0).castLE hcore2) ((i 1).castLE hsub2)).devRef cc2_scratch1) rfl⟩),
    SparseCore.bigSep_erase' (Finset.mem_erase.mpr ⟨fun e => absurd (Proc.devRef_injective _ e) (show (cc2_scratch2 : Ref sig .scVector) ≠ cc2_scratch1 by decide),
      Finset.mem_erase.mpr ⟨fun e => absurd (Proc.devRef_injective _ e) (show (cc2_scratch2 : Ref sig .scVector) ≠ cc2_scratch0 by decide),
      SparseCore.Cfg.mem_ownRefs_of_owner (p := Proc.scVector ((i 0).castLE hcore2) ((i 1).castLE hsub2)) (b := (Proc.scVector ((i 0).castLE hcore2) ((i 1).castLE hsub2)).devRef cc2_scratch2) rfl⟩⟩)]

variable (q : PosShare TreeShare) (T : S8388608x16.Idx → F .f32) (C : S4096x128.Idx → BitVec 32) (P : S4096x128.Idx → F .f32)

/-- What a task takes and brings back: shares of the table, the codes and the probabilities, and its blocks of the
    result, holding `f`. -/
abbrev taskRes (f : S524288x16.Idx → F .f32) : sProp (MM F) :=
  iprop((codeM.view.loc (thr d i) ↦{q} C) ∗ (probM.view.loc (thr d i) ↦{q} P) ∗ (tabM.view.loc (thr d i) ↦{q} T) ∗ outBlocks d i f)

/-- The task of a vector subcore. -/
theorem task_body (f : S524288x16.Idx → F .f32) (O : CellTallies nD τ sig (HIx 1)) (W : Waits sig (HIx 1)) (hO : ∀ g, O g none = 0) (hC : ∀ x, (C x).toNat < 8388608) :
    iprop(levAts (K (F := F)).L (K (F := F)).lev ∗ emp ∗ taskRes d i q T C P f ∗ scopedBufs (thr d i) ∗ scopedSems0 (thr d i) ∗ owes (thr d i) O W)
      ⊢ wp frame (wpE (defs₀ (F := F)) 𝒱₀ (thr d i) none) Set.univ
          (cc2__gather_scale_body (F := F) i tabM (Memref.isWhole_whole _) codeM (Memref.isWhole_whole _) probM (Memref.isWhole_whole _) outM (Memref.isWhole_whole _)
            idxM (Memref.isWhole_whole _) pM (Memref.isWhole_whole _) rowM (Memref.isWhole_whole _) cc2_scratch3 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23)
          fun _ => iprop(taskRes d i q T C P (outVal T C P) ∗ scopedBufs (thr d i) ∗ scopedSems0 (thr d i)
            ∗ ∃ W', ⌜∀ p ∈ W', p ∈ W ∨ p.2 = none⌝ ∗ owes (thr d i) O W') := by
  rw [(K (F := F)).scopedBufs_V facts d ((i 0).castLE hcore2) ((i 1).castLE hsub2), SparseCore.Cfg.scopedSems0_V (Val := Elt F) d ((i 0).castLE hcore2) ((i 1).castLE hsub2)]
  rw [ownSems_tile, ownBufs_tile, tileLocs_sep]
  iintro ⟨#Hlv, -, ⟨HC, HP, HT, Hout⟩, ⟨Hi, Hp, Hr, Hbufs⟩, ⟨⟨Hv, S0, S1, S2, S3, S4, S5, S6, S7, S8, S9, S10, S11, S12, S13, S14, S15, S16, S17, S18, S19, S20, S21, S22, S23⟩, Hsems⟩, HO⟩
  ihave #Hmw := (show levAts (K (F := F)).L (K (F := F)).lev ⊢ Transfers.MayWaits (thr d i) (default : HIx 1) O from
    (K (F := F)).mayWaits_none (thr := thr d i) hO) $$ Hlv
  iapply (wp_wand_r frame _ _)
  isplitl [HC HP HT Hout Hi Hp Hr Hv S0 S1 S2 S3 S4 S5 S6 S7 S8 S9 S10 S11 S12 S13 S14 S15 S16 S17 S18 S19 S20 S21 S22 S23 HO]
  · iapply (wp_tile d i q T C P f O W hC)
    unfold tileRes tileSems
    isplitl [HC HP HT Hi Hp Hr Hv HO]
    · isplitr; · iexact Hmw
      isplitl [HC]; · iexact HC
      isplitl [HP]; · iexact HP
      isplitl [HT]; · iexact HT
      isplitl [Hi]; · iexact Hi
      isplitl [Hp]; · iexact Hp
      isplitl [Hr]; · iexact Hr
      isplitl [Hv]; · iexact Hv
      iexists W
      isplitr
      · ipureintro; exact fun p hp => Or.inl hp
      · iexact HO
    isplitl [Hout]; · iexact Hout
    unfold sems3
    iframe
  unfold tileRes tileSems sems3
  iintro %_ ⟨⟨-, HC, HP, HT, Hi, Hp, Hr, Hv, HO⟩, Hout, ⟨S0, S1, S2⟩, ⟨S3, S4, S5⟩, ⟨S6, S7, S8⟩, ⟨S9, S10, S11⟩, ⟨S12, S13, S14⟩, ⟨S15, S16, S17⟩, ⟨S18, S19, S20⟩, ⟨S21, S22, S23⟩⟩
  isplitl [HC HP HT Hout]
  · isplitl [HC]; · iexact HC
    isplitl [HP]; · iexact HP
    isplitl [HT]; · iexact HT
    iexact Hout
  isplitl [Hi Hp Hr Hbufs]
  · isplitl [Hi]; · iexact Hi
    isplitl [Hp]; · iexact Hp
    isplitl [Hr]; · iexact Hr
    iexact Hbufs
  isplitr [HO]
  · isplitr [Hsems]
    · iframe
    · iexact Hsems
  iexact HO

end Own

end Cert.Proof.Lsh

end
-- ==== Proof.Deal.lean ====
/- The call's arrays dealt out to its thirty-two tiles: shares of what all read, disjoint blocks of what they write. -/
module

public import proofs.«01_k».proof.Proof.Task

@[expose] public section

set_option maxRecDepth 16384

noncomputable section

namespace Cert.Proof.Lsh

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.ValueIdx

/-- The coordinates of tile `s` of SparseCore `c`. -/
def coords (c : Fin (grid2.bound 0)) (s : Fin (grid2.bound 1)) : grid2.Coords :=
  fun | 0 => c | 1 => s | ⟨_ + 2, h⟩ => absurd h (Nat.not_lt.2 (Nat.le_add_left _ _))

/-- Tile `s` of SparseCore `c`'s share of an array every tile reads. -/
def shareOf (c : Fin 2) (s : Fin 16) : PosShare TreeShare := pieceOf (pieceOf fullShare 2 (by decide) c) 16 (by decide) s

/-- An array held whole is held at every tile's share. -/
theorem share_split (ℓ : Loc nD τ sig) (f : Buf (Elt F) ℓ) :
    ((ℓ ↦{fullShare} f) : sProp (MM F)) = bigSep Finset.univ fun c : Fin 2 => bigSep Finset.univ fun s : Fin 16 => ℓ ↦{shareOf c s} f := by
  refine (pointsTo_piecesOf Finset.univ f (o := 2) (by decide) fullShare).trans (congrArg (bigSep Finset.univ) (funext fun c => ?_))
  exact pointsTo_piecesOf Finset.univ f (o := 16) (by decide) (pieceOf fullShare 2 (by decide) c)

/-- Whose rows of the result a row is. -/
theorem mem_outRows (c : Fin 2) (s : Fin 16) (n : Fin 8) (x : S524288x16.Idx) :
    x ∈ (outRows (coords c s) outM n).view.set ↔ (x 0).val / 2048 = 16 * s.val + 8 * c.val + n.val := by
  have hc0 : codeRow0 (coords c s) n = 256 * s.val + 128 * c.val + 16 * n.val := rfl
  constructor
  · intro h
    obtain ⟨y, hy⟩ := View.exists_emb_of_mem_set _ h
    have hy : x = (outRows (coords c s) outM n).view.emb y := hy.symm
    rw [hy, outRows_emb]
    have : (y 0).val < 2048 := (y 0).isLt
    show (128 * codeRow0 (coords c s) n + (y 0).val) / 2048 = _
    rw [hc0]
    omega
  · intro h
    have e : x = (outRows (coords c s) outM n).view.emb (ix2 (⟨(x 0).val % 2048, Nat.mod_lt _ (by decide)⟩ : Fin 2048) (x 1) : S2048x16.Idx) := by
      rw [outRows_emb]
      refine Shape.idx_ext₂ ?_ rfl
      show (x 0).val = 128 * codeRow0 (coords c s) n + (x 0).val % 2048
      rw [hc0]
      omega
    rw [e]
    exact View.emb_mem_set _ _

/-- Four families side by side are one family of fours. -/
theorem four_sep {I : Type} (S : Finset I) (A B C D : I → sProp (MM F)) :
    iprop(bigSep S A ∗ bigSep S B ∗ bigSep S C ∗ bigSep S D) = bigSep S fun i => iprop(A i ∗ B i ∗ C i ∗ D i) := by
  have h1 := BI.bigSep_sep S A fun i => iprop(B i ∗ C i ∗ D i)
  have h2 := BI.bigSep_sep S B fun i => iprop(C i ∗ D i)
  have h3 := BI.bigSep_sep S C D
  exact (h1.trans (congrArg (fun X : sProp (MM F) => iprop(bigSep S A ∗ X)) (h2.trans (congrArg (fun X : sProp (MM F) => iprop(bigSep S B ∗ X)) h3)))).symm

section Deal

variable (d : Dev nD)

/-- A tile's eight blocks, as a family. -/
theorem outBlocks_sep (i : grid2.Coords) (f : S524288x16.Idx → F .f32) :
    (outBlocks d i f : sProp (MM F)) = bigSep Finset.univ fun n : Fin 8 => outBlock d i n f := by
  rw [show (Finset.univ : Finset (Fin 8)) = {0, 1, 2, 3, 4, 5, 6, 7} by decide, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The result's array is its tiles' blocks. -/
theorem out_split (f : S524288x16.Idx → F .f32) :
    (((T d : Thread nD τ).loc main_v21 ↦{fullShare} f) : sProp (MM F))
      = bigSep Finset.univ fun c : Fin 2 => bigSep Finset.univ fun s : Fin 16 => outBlocks d (coords c s) f := by
  have hu : (Finset.univ : Finset S524288x16.Idx) = Finset.univ.biUnion fun t : Fin 2 × Fin 16 × Fin 8 => (outRows (coords t.1 t.2.1) outM t.2.2).view.set := by
    ext x
    simp only [Finset.mem_univ, true_iff, Finset.mem_biUnion, true_and]
    have hx : (x 0).val < 524288 := (x 0).isLt
    refine ⟨⟨⟨(x 0).val / 2048 / 8 % 2, by omega⟩, ⟨(x 0).val / 2048 / 16, by omega⟩, ⟨(x 0).val / 2048 % 8, by omega⟩⟩, (mem_outRows _ _ _ x).mpr ?_⟩
    show (x 0).val / 2048 = 16 * ((x 0).val / 2048 / 16) + 8 * ((x 0).val / 2048 / 8 % 2) + (x 0).val / 2048 % 8
    omega
  have h1 : (((T d : Thread nD τ).loc main_v21 ↦{fullShare} f) : sProp (MM F))
      = bigSep Finset.univ fun t : Fin 2 × Fin 16 × Fin 8 => (T d : Thread nD τ).loc main_v21 ↦[(outRows (coords t.1 t.2.1) outM t.2.2).view.set]{fullShare} f := by
    refine (congrArg (fun S : Finset S524288x16.Idx => (((T d : Thread nD τ).loc main_v21 ↦[S]{fullShare} f) : sProp (MM F))) hu).trans ?_
    refine pointsTo_biUnion (ℓ := (T d : Thread nD τ).loc main_v21) Finset.univ (fun t : Fin 2 × Fin 16 × Fin 8 => (outRows (coords t.1 t.2.1) outM t.2.2).view.set) fun g _ g' _ h =>
      Finset.disjoint_left.mpr fun x hx hx' => h ?_
    obtain ⟨c, s, n⟩ := g
    obtain ⟨c', s', n'⟩ := g'
    have e := ((mem_outRows c s n x).mp hx).symm.trans ((mem_outRows c' s' n' x).mp hx')
    have hc := c.isLt; have hc' := c'.isLt; have hn := n.isLt; have hn' := n'.isLt
    have e1 : c = c' := Fin.ext (by omega)
    have e2 : s = s' := Fin.ext (by omega)
    have e3 : n = n' := Fin.ext (by omega)
    rw [e1, e2, e3]
  refine h1.trans ((BI.bigSep_univ_prod _).trans (congrArg (bigSep Finset.univ) (funext fun c => (BI.bigSep_univ_prod _).trans (congrArg (bigSep Finset.univ) (funext fun s => ?_)))))
  exact (outBlocks_sep d (coords c s) f).symm

variable (tab : S8388608x16.Idx → F .f32) (C : S4096x128.Idx → BitVec 32) (P : S4096x128.Idx → F .f32)

/-- What the call takes and brings back, the result's array holding `f`. -/
abbrev callRes (f : S524288x16.Idx → F .f32) : sProp (MM F) :=
  iprop(((T d : Thread nD τ).loc main_v20_0 ↦{fullShare} C) ∗ ((T d : Thread nD τ).loc main_v20_1 ↦{fullShare} P) ∗ ((T d : Thread nD τ).loc main_v4 ↦{fullShare} tab)
    ∗ ((T d : Thread nD τ).loc main_v21 ↦{fullShare} f))

/-- It is what the tiles take. -/
theorem call_split (f : S524288x16.Idx → F .f32) :
    (callRes d tab C P f : sProp (MM F))
      = bigSep Finset.univ fun c : Fin 2 => bigSep Finset.univ fun s : Fin 16 => taskRes d (coords c s) (shareOf c s) tab C P f := by
  unfold callRes
  rw [share_split ((T d : Thread nD τ).loc main_v20_0) C, share_split ((T d : Thread nD τ).loc main_v20_1) P, share_split ((T d : Thread nD τ).loc main_v4) tab, out_split d f]
  exact (four_sep _ _ _ _ _).trans (congrArg (bigSep Finset.univ) (funext fun c => four_sep _ _ _ _ _))

end Deal

end Cert.Proof.Lsh

end
-- ==== Proof.Launch.lean ====
/- The launch: the SparseCore call's obligations, @main on the TensorCore, and the run of the whole program. -/
module

public import proofs.«01_k».proof.Proof.Deal
public import proofs.«01_k».proof.Proof.Host

@[expose] public section

set_option maxRecDepth 16384

noncomputable section

namespace Cert.Proof.Lsh

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The cores and the tiles of the call. -/
theorem nCore_zero : (K (F := F)).nCore 0 = 2 := rfl
theorem nSub_zero : (K (F := F)).nSub 0 = 16 := rfl

/-- A family over the call's tasks, or its cores, counted plainly. -/
theorem tasks_sep (Φ : Fin 16 → sProp (MM F)) : (bigSep Finset.univ fun i : Fin ((K (F := F)).nSub 0) => Φ (Fin.cast nSub_zero i)) = bigSep Finset.univ Φ :=
  bigSep_congr fun _ _ => congrArg Φ (Fin.ext rfl)
theorem cores_sep (Φ : Fin 2 → sProp (MM F)) : (bigSep Finset.univ fun c : Fin ((K (F := F)).nCore 0) => Φ (Fin.cast nCore_zero c)) = bigSep Finset.univ Φ :=
  bigSep_congr fun _ _ => congrArg Φ (Fin.ext rfl)

section Call

variable (tab : Dev nD → S8388608x16.Idx → F .f32) (C : Dev nD → S4096x128.Idx → BitVec 32) (P : Dev nD → S4096x128.Idx → F .f32)
variable (f : Dev nD → S524288x16.Idx → F .f32)

/-- What a task takes from its call; -/
@[irreducible] def taskGo (d : Dev nD) (c : Fin 2) (s : Fin 16) : sProp (MM F) := taskRes d (coords c s) (shareOf c s) (tab d) (C d) (P d) (f d)
/-- and what it brings back. -/
@[irreducible] def taskTd (d : Dev nD) (c : Fin 2) (s : Fin 16) : sProp (MM F) :=
  taskRes d (coords c s) (shareOf c s) (tab d) (C d) (P d) (outVal (tab d) (C d) (P d))

/-- A tile's resources are storable. -/
theorem taskRes_storable (d : Dev nD) (i : grid2.Coords) (q : PosShare TreeShare) (tab : S8388608x16.Idx → F .f32) (C : S4096x128.Idx → BitVec 32)
    (P : S4096x128.Idx → F .f32) (f : S524288x16.Idx → F .f32) : BI.Storable (upEmb : UEmb _ (MM F)) (taskRes d i q tab C P f) := by
  unfold taskRes outBlocks outBlock
  infer_instance

instance taskGo_storable (d : Dev nD) (c : Fin 2) (s : Fin 16) : BI.Storable (upEmb : UEmb _ (MM F)) (taskGo tab C P f d c s) := by
  unfold taskGo; exact taskRes_storable _ _ _ _ _ _ _
instance taskTd_storable (d : Dev nD) (c : Fin 2) (s : Fin 16) : BI.Storable (upEmb : UEmb _ (MM F)) (taskTd tab C P d c s) := by
  unfold taskTd; exact taskRes_storable _ _ _ _ _ _ _

/-- What a core takes from the call for its tasks; -/
@[irreducible] def coreGo (d : Dev nD) (c : Fin 2) : sProp (MM F) := bigSep Finset.univ fun s : Fin 16 => taskGo tab C P f d c s
/-- and what it hands back. -/
@[irreducible] def coreTd (d : Dev nD) (c : Fin 2) : sProp (MM F) := bigSep Finset.univ fun s : Fin 16 => taskTd tab C P d c s

instance coreGo_storable (d : Dev nD) (c : Fin 2) : BI.Storable (upEmb : UEmb _ (MM F)) (coreGo tab C P f d c) := by
  unfold coreGo; infer_instance
instance coreTd_storable (d : Dev nD) (c : Fin 2) : BI.Storable (upEmb : UEmb _ (MM F)) (coreTd tab C P d c) := by
  unfold coreTd; infer_instance

/-- What the handshakes carry. -/
def pay : (K (F := F)).Pay (nD := nD) (Val := Elt F) (Name := ℕ) (U := UU) where
  st := fun q d c => match q with | 0 => coreGo tab C P f d (Fin.cast nCore_zero c)
  dn := fun q d c => match q with | 0 => coreTd tab C P d (Fin.cast nCore_zero c)
  go := fun q d c i => match q with | 0 => taskGo tab C P f d (Fin.cast nCore_zero c) (Fin.cast nSub_zero i)
  td := fun q d c i => match q with | 0 => taskTd tab C P d (Fin.cast nCore_zero c) (Fin.cast nSub_zero i)
  x := fun _ _ => iprop(emp)

instance pay_storable : (pay tab C P f).IsStorable where
  st q d c := match q with
    | 0 => (inferInstance : BI.Storable (upEmb : UEmb _ (MM F)) (coreGo tab C P f d (Fin.cast nCore_zero c)))
  dn q d c := match q with
    | 0 => (inferInstance : BI.Storable (upEmb : UEmb _ (MM F)) (coreTd tab C P d (Fin.cast nCore_zero c)))
  go q d c i := match q with
    | 0 => (inferInstance : BI.Storable (upEmb : UEmb _ (MM F)) (taskGo tab C P f d (Fin.cast nCore_zero c) (Fin.cast nSub_zero i)))
  td q d c i := match q with
    | 0 => (inferInstance : BI.Storable (upEmb : UEmb _ (MM F)) (taskTd tab C P d (Fin.cast nCore_zero c) (Fin.cast nSub_zero i)))

/-- The body of the vector call. -/
theorem defs₀_vector (c : Fin τ.nSC) (s : Fin τ.nSub) :
    defs₀ (F := F) (.scVector c s) 2 ()
      = SparseCore.onTile hcore2 hsub2 (fun c s => cc2__gather_scale_body (coords c s) tabM (Memref.isWhole_whole _) codeM (Memref.isWhole_whole _) probM (Memref.isWhole_whole _)
          outM (Memref.isWhole_whole _) idxM (Memref.isWhole_whole _) pM (Memref.isWhole_whole _) rowM (Memref.isWhole_whole _) cc2_scratch3 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23) ⟨⟩ c s := rfl

/-- The waits a task records, as the launch asks for them. -/
theorem task_post {thr : Thread nD τ} {A B E : sProp (MM F)} {O : CellTallies nD τ sig (HIx 1)} {W : Waits sig (HIx 1)} {q : Fin 1} :
    iprop(A ∗ B ∗ E ∗ ∃ W', ⌜∀ p ∈ W', p ∈ W ∨ p.2 = none⌝ ∗ owes thr O W')
      ⊢ iprop(A ∗ B ∗ E ∗ ∃ W', ⌜∀ p ∈ W', p ∈ W ∨ p.2 = none ∨ p.2 = some q⌝ ∗ owes thr O W') := by
  iintro ⟨HA, HB, HE, %W', %hW', HO⟩
  isplitl [HA]; · iexact HA
  isplitl [HB]; · iexact HB
  isplitl [HE]; · iexact HE
  iexists W'
  isplitr
  · ipureintro; exact fun p hp => (hW' p hp).imp_right Or.inl
  · iexact HO

/-- The obligation of every task. -/
theorem tileObl (hC : ∀ d x, (C d x).toNat < 8388608) : (K (F := F)).TileObl (D (F := F)) 𝒱 (pay tab C P f) v₀ 0 := by
  intro d c i O W hO _ _
  simp only [show (pay tab C P f).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  show iprop(_ ∗ _ ∗ taskGo tab C P f d (Fin.cast nCore_zero c) (Fin.cast nSub_zero i) ∗ _) ⊢ wp _ _ _ _ fun _ => iprop(taskTd tab C P d (Fin.cast nCore_zero c) (Fin.cast nSub_zero i) ∗ _)
  unfold taskGo taskTd
  exact (task_body d (coords ⟨_, hci.1⟩ ⟨_, hci.2⟩) (shareOf (Fin.cast nCore_zero c) (Fin.cast nSub_zero i)) (tab d) (C d) (P d) (f d) O W hO (hC d)).trans
    (wp_mono frame _ _ fun _ => task_post)

/-- What a core is handed is what its tasks take. -/
theorem vecSplit : (K (F := F)).VecSplit' (pay tab C P f) 0 := by
  intro d c
  show coreGo tab C P f d (Fin.cast nCore_zero c) ⊢ |={Set.univ}=> iprop(
      (bigSep Finset.univ fun i : Fin ((K (F := F)).nSub 0) => taskGo tab C P f d (Fin.cast nCore_zero c) (Fin.cast nSub_zero i))
      ∗ ((bigSep Finset.univ fun i : Fin ((K (F := F)).nSub 0) => taskTd tab C P d (Fin.cast nCore_zero c) (Fin.cast nSub_zero i)) -∗ coreTd tab C P d (Fin.cast nCore_zero c)))
  rw [tasks_sep, tasks_sep]
  unfold coreGo coreTd
  iintro H
  imodintro
  isplitl [H]
  · iexact H
  · iintro H
    iexact H

/-- The call's arrays are what the two cores are handed, -/
theorem st_eq (d : Dev nD) : (bigSep Finset.univ fun c : Fin ((K (F := F)).nCore 0) => (pay tab C P f).st 0 d c) = (callRes d (tab d) (C d) (P d) (f d) : sProp (MM F)) := by
  rw [call_split]
  refine (cores_sep fun c => coreGo tab C P f d c).trans ?_
  unfold coreGo taskGo
  rfl
/-- and what they hand back. -/
theorem dn_eq (d : Dev nD) :
    (bigSep Finset.univ fun c : Fin ((K (F := F)).nCore 0) => (pay tab C P f).dn 0 d c) = (callRes d (tab d) (C d) (P d) (outVal (tab d) (C d) (P d)) : sProp (MM F)) := by
  rw [call_split]
  refine (cores_sep fun c => coreTd tab C P d c).trans ?_
  unfold coreTd taskTd
  rfl

/-- The launch element: the handshakes' rounds, the pipelines' rounds, no counter. -/
def u₀ : UU :=
  (initOf (K (F := F)).hsCells (K (F := F)).hsToks,
    (initOf (Pipeline.cells (nD := nD) (τ := τ) cfgs cellOf_inj) (Pipeline.launchToks (nD := nD) (τ := τ) cfgs cellOf_inj), (1 : Counters)))

/-- What each TensorCore is dealt beside its memory: its pipelines' rounds. -/
abbrev GG (d : Dev nD) : sProp (MM F) := Pipeline.ghostOn (pcfgs (F := F)) adm EP Finset.univ d

theorem hu₀ : (ownU (u₀ (F := F)) : sProp (MM F))
    ⊢ |={Set.univ}=> iprop(BI.own (EH (initOf (K (F := F)).hsCells (K (F := F)).hsToks)) ∗ (bigSep Finset.univ (GG (F := F)))
        ∗ bigSep Finset.univ fun thr : Thread nD τ => bigSep Finset.univ fun q : Fin 1 => (pay tab C P f).x q thr) := by
  unfold u₀
  iintro Hu
  ihave H := (ownU_pair (initOf (K (F := F)).hsCells (K (F := F)).hsToks)
    ((initOf (Pipeline.cells (nD := nD) (τ := τ) cfgs cellOf_inj) (Pipeline.launchToks (nD := nD) (τ := τ) cfgs cellOf_inj), (1 : Counters)) : UP × Counters)) $$ Hu
  icases H with ⟨HH, HP⟩
  have hp : (BI.own (embR (nD := nD) (τ := τ) (sig := sig) (Ix := HIx 1) (Val := Elt F) (Name := ℕ) (Lvl := ℕ) (A := UH)
      ((initOf (Pipeline.cells (nD := nD) (τ := τ) cfgs cellOf_inj) (Pipeline.launchToks (nD := nD) (τ := τ) cfgs cellOf_inj), (1 : Counters)) : UP × Counters)) : sProp (MM F))
      ⊢ BI.own (EP (F := F) (initOf (Pipeline.cells (nD := nD) (τ := τ) cfgs cellOf_inj) (Pipeline.launchToks (nD := nD) (τ := τ) cfgs cellOf_inj))) := Entails.of_eq rfl
  ihave HP := hp $$ HP
  imod (Pipeline.fund_ghost (Pipeline.pin (pcfgs (F := F)) adm) EP cellOf_inj) $$ HP with ⟨Hg, Ht⟩
  imodintro
  isplitl [HH]; · iexact HH
  isplitl [Hg Ht]
  · have hj : iprop((bigSep Finset.univ fun c : Dev nD => bigSep Finset.univ fun p => Pipeline.cellsGhost (Pipeline.pin (pcfgs (F := F)) adm) (EP (F := F)) p c)
        ∗ (bigSep Finset.univ fun c : Dev nD => bigSep Finset.univ fun p => Pipeline.toksInit (Pipeline.pin (pcfgs (F := F)) adm) (EP (F := F)) p c)) ⊢ bigSep Finset.univ (GG (F := F)) := by
      refine (Transfers.bigSep_sep_in _ _ _).trans (BI.bigSep_mono fun c _ => ?_)
      exact Transfers.bigSep_sep_in _ _ _
    iapply hj
    isplitl [Hg] <;> iassumption
  · rw [show (bigSep Finset.univ fun thr : Thread nD τ => bigSep Finset.univ fun q : Fin 1 => (pay tab C P f).x q thr) = bigSep Finset.univ fun _ => iprop(emp) from
      bigSep_congr fun _ _ => bigSep_univ_of_subsingleton (0 : Fin 1),
      show (bigSep Finset.univ fun _ : Thread nD τ => (iprop(emp) : sProp (MM F))) = iprop(emp) from bigSep_emp_const Finset.univ]
    iempintro

end Call

end Cert.Proof.Lsh

end
-- ==== Proof.Main.lean ====
/- @main on the TensorCore, and the run of the whole program. -/
module

public import proofs.«01_k».proof.Proof.Launch

@[expose] public section

set_option maxRecDepth 16384

noncomputable section

namespace Cert.Proof.Lsh

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The buffers of the call. -/
def callRefs : Finset (DevRef τ sig) :=
  {Proc.devRef .tc (main_v20_0 : Ref sig .tc), Proc.devRef .tc (main_v20_1 : Ref sig .tc), Proc.devRef .tc (main_v4 : Ref sig .tc), Proc.devRef .tc (main_v21 : Ref sig .tc)}

/-- They are among the TensorCore's own. -/
theorem callRefs_sub : callRefs ⊆ Pipeline.ucRefs τ sig := by decide

section Main

variable (d : Dev nD)

/-- Everything the TensorCore holds between host operations: the call's buffers, and the rest. -/
theorem held_call (V : Valuation τ sig (Elt F)) :
    (StableHlo.held (T d : Thread nD τ) (Pipeline.ucRefs τ sig) V : sProp (MM F))
      = iprop(callRes d (V (Proc.devRef .tc (main_v4 : Ref sig .tc))) (V (Proc.devRef .tc (main_v20_0 : Ref sig .tc))) (V (Proc.devRef .tc (main_v20_1 : Ref sig .tc)))
          (V (Proc.devRef .tc (main_v21 : Ref sig .tc))) ∗ StableHlo.held (T d : Thread nD τ) (Pipeline.ucRefs τ sig \ callRefs) V) := by
  refine (StableHlo.held_sub_split (T d : Thread nD τ) callRefs_sub V).trans ?_
  refine congrArg (fun X : sProp (MM F) => iprop(X ∗ StableHlo.held (T d : Thread nD τ) (Pipeline.ucRefs τ sig \ callRefs) V)) ?_
  unfold StableHlo.held callRefs callRes
  rw [SparseCore.bigSep_insert' (by decide), SparseCore.bigSep_insert' (by decide), SparseCore.bigSep_insert' (by decide), bigSep_singleton]

/-- A buffer the TensorCore holds is what the memory has. -/
theorem held_agree (V : Valuation τ sig (Elt F)) (b : DevRef τ sig) (hb : b ∈ Pipeline.ucRefs τ sig) (s' : Phys nD τ sig (Elt F)) :
    iprop(StableHlo.held (T d : Thread nD τ) (Pipeline.ucRefs τ sig) V ∗ SI s') ⊢ (⌜s'.mem.mem (d, b) = V b⌝ : sProp (MM F)) := by
  iintro ⟨H, HSI⟩
  ihave H := (show (StableHlo.held (T d : Thread nD τ) (Pipeline.ucRefs τ sig) V : sProp (MM F)) ⊢ ((d, b) : Loc nD τ sig) ↦{fullShare} V b from
    bigSep_elim (Φ := fun b => (((d, b) : Loc nD τ sig) ↦{fullShare} V b : sProp (MM F))) hb) $$ H
  ihave H := (SI_pointsTo_agree (st := s') (ℓ := ((d, b) : Loc nD τ sig)) (I := Finset.univ) (q := fullShare) (f := V b)) $$ [HSI H]
  · isplitl [HSI] <;> iassumption
  icases H with %h
  ipureintro; exact funext fun i => h i (Finset.mem_univ i)

variable (m : (ℓ : Loc nD τ sig) → Buf (Elt F) ℓ) (ρ : Dev nD → PrngReg)

/-- The memory at the launch, as a valuation. -/
abbrev Wm : Dev nD → Valuation τ sig (Elt F) := fun d b => m (d, b)

/-- What the call's arrays hold when it runs. -/
abbrev tabV : Dev nD → S8388608x16.Idx → F .f32 := fun d => W4 (Wm m) d (Proc.devRef .tc (main_v4 : Ref sig .tc))
abbrev codeV : Dev nD → S4096x128.Idx → BitVec 32 := fun d => W4 (Wm m) d (Proc.devRef .tc (main_v20_0 : Ref sig .tc))
abbrev probV : Dev nD → S4096x128.Idx → F .f32 := fun d => W4 (Wm m) d (Proc.devRef .tc (main_v20_1 : Ref sig .tc))
abbrev oldV : Dev nD → S524288x16.Idx → F .f32 := fun d => W4 (Wm m) d (Proc.devRef .tc (main_v21 : Ref sig .tc))

/-- What the buffers hold after the call, -/
def W5 (d : Dev nD) : Valuation τ sig (Elt F) :=
  Function.update (W4 (Wm m) d) (Proc.devRef .tc (main_v21 : Ref sig .tc)) (outVal (tabV m d) (codeV m d) (probV m d))
/-- and at the end. -/
abbrev W6 (d : Dev nD) : Valuation τ sig (Elt F) := StableHlo.after opsC (W5 m d)

/-- The call's handshakes for this memory. -/
abbrev payV : (K (F := F)).Pay (nD := nD) (Val := Elt F) (Name := ℕ) (U := UU) := pay (tabV m) (codeV m) (probV m) (oldV m)

/-- After the call the buffers hold `W5`. -/
theorem held_after :
    iprop(callRes d (tabV m d) (codeV m d) (probV m d) (outVal (tabV m d) (codeV m d) (probV m d)) ∗ StableHlo.held (T d : Thread nD τ) (Pipeline.ucRefs τ sig \ callRefs) (W4 (Wm m) d))
      = (StableHlo.held (T d : Thread nD τ) (Pipeline.ucRefs τ sig) (W5 m d) : sProp (MM F)) := by
  rw [held_call d (W5 m d)]
  have h4 : W5 m d (Proc.devRef .tc (main_v4 : Ref sig .tc)) = tabV m d := Function.update_of_ne (show (Proc.devRef .tc (main_v4 : Ref sig .tc) : DevRef τ sig) ≠ Proc.devRef .tc (main_v21 : Ref sig .tc) by decide) _ _
  have h0 : W5 m d (Proc.devRef .tc (main_v20_0 : Ref sig .tc)) = codeV m d := Function.update_of_ne (show (Proc.devRef .tc (main_v20_0 : Ref sig .tc) : DevRef τ sig) ≠ Proc.devRef .tc (main_v21 : Ref sig .tc) by decide) _ _
  have h1 : W5 m d (Proc.devRef .tc (main_v20_1 : Ref sig .tc)) = probV m d := Function.update_of_ne (show (Proc.devRef .tc (main_v20_1 : Ref sig .tc) : DevRef τ sig) ≠ Proc.devRef .tc (main_v21 : Ref sig .tc) by decide) _ _
  have ho : W5 m d (Proc.devRef .tc (main_v21 : Ref sig .tc)) = outVal (tabV m d) (codeV m d) (probV m d) := Function.update_self _ _ _
  rw [h4, h0, h1, ho]
  refine congrArg (fun X : sProp (MM F) => iprop(callRes d (tabV m d) (codeV m d) (probV m d) (outVal (tabV m d) (codeV m d) (probV m d)) ∗ X)) ?_
  refine StableHlo.held_congr (T d : Thread nD τ) fun b hb => ?_
  refine (Function.update_of_ne (fun e => (Finset.mem_sdiff.mp hb).2 ?_) _ _).symm
  rw [e]
  decide

/-- @main on a TensorCore. -/
theorem hmain (κ : GSem nD τ sig → ℕ) (d : Dev nD) :
    iprop((K (F := F)).ctx EH (payV m) κ ∗ (K (F := F)).tcSt EH d 0 ∗ (K (F := F)).tcRes m ρ d ∗ GG d)
      ⊢ wp frame (wpE ((K (F := F)).defs (D (F := F))) 𝒱 (SparseCore.T d) none) Set.univ (main (F := F) d)
          fun _ => iprop((K (F := F)).tcSt EH d 1 ∗ StableHlo.held (T d : Thread nD τ) (Pipeline.ucRefs τ sig) (W6 m d) ∗ (K (F := F)).tcEnd d) := by
  have hub := Pipeline.unscopedBufs_held (Ix := HIx 1) (Name := ℕ) (U := UU) (Lvl := ℕ) d (Wm m d)
  have hub' : (unscopedBufs d (fun b => m ((T d : Thread nD τ).loc b)) : sProp (MM F)) = StableHlo.held (T d : Thread nD τ) (Pipeline.ucRefs τ sig) (Wm m d) := hub
  rw [main_eq]
  unfold SparseCore.Cfg.tcRes SparseCore.Cfg.tcEnd
  rw [hub', wp_bind]
  iintro ⟨#Hctx, Hst, ⟨Hb, Hh, Hts, Hpr⟩, HG⟩
  ihave #Hlv := ((K (F := F)).ctx_levAts (EH := EH) (P := payV m) κ) $$ Hctx
  ihave Hst := (show (K (F := F)).tcSt EH d 0 ⊢ iprop(owesLow (F := F) d ∗ _) from Entails.of_eq rfl) $$ Hst
  icases Hst with ⟨HO, Hrest⟩
  iapply (wp_wand_r frame _ _)
  isplitl [Hb Hh Hpr HO HG]
  · iapply ((K (F := F)).wp_liftProg (D (F := F)) 𝒱 (SparseCore.T d) Set.univ none (mainPre (F := F)) _)
    iapply (wp_mainPre (Wm m) d)
    isplitl [Hb Hh Hpr HO]
    · isplitl [Hb]; · iexact Hb
      isplitl [Hh]; · iexact Hh
      isplitl [Hpr]
      · iexists _; iexact Hpr
      · iexact HO
    isplitr; · iexact Hlv
    iexact HG
  iintro %_ ⟨Hb, Hh, -, HO⟩
  ihave Hst := (show iprop(owesLow (F := F) d ∗ _) ⊢ (K (F := F)).tcSt EH d 0 from Entails.of_eq rfl) $$ [HO Hrest]
  · isplitl [HO] <;> iassumption
  ihave Hh := (Entails.of_eq (held_call d (W4 (Wm m) d))) $$ Hh
  icases Hh with ⟨Hc, Hh⟩
  rw [wp_bind]
  iapply ((K (F := F)).wp_run (D (F := F)) 𝒱 (EH := EH) (P := payV m) κ d 0) $$ [Hst Hc Hh Hb Hts]
  isplitr; · iexact Hctx
  isplitl [Hst]; · iexact Hst
  isplitl [Hc]
  · iapply (Entails.of_eq (st_eq (tabV m) (codeV m) (probV m) (oldV m) d).symm)
    iexact Hc
  iintro ⟨Hst, Hdn⟩
  ihave Hc := (Entails.of_eq (dn_eq (tabV m) (codeV m) (probV m) (oldV m) d)) $$ Hdn
  ihave Hh := (Entails.of_eq (held_after d m)) $$ [Hc Hh]
  · isplitl [Hc] <;> iassumption
  rw [show (StableHlo.seq opsC : Prog (TpuEff nD τ sig (Elt F) _ .tc) PUnit) = StableHlo.seq opsC >>= Pure.pure from (bind_pure _).symm]
  iapply (StableHlo.wp_seq 𝒱 (defs := (K (F := F)).defs (D (F := F))) none Set.univ d (Pipeline.ucRefs τ sig) Pure.pure opsC (fun op h => Pipeline.sub_ucRefs op ((List.forall_iff_forall_mem.mp opsC_sub) op h)) (List.forall_iff_forall_mem.mp opsC_fresh) (W5 m d)) $$ [Hb Hh]
  · isplitl [Hb] <;> iassumption
  iintro ⟨Hb, Hh⟩
  rw [wp_pure]
  imodintro
  isplitl [Hst]; · iexact Hst
  isplitl [Hh]; · iexact Hh
  isplitl [Hb] <;> iassumption

/-- What the run leaves on a device: every buffer of the TensorCore at `W6`. -/
def fq (d : Dev nD) (s' : Phys nD τ sig (Elt F)) : Prop :=
  s'.mem.mem (d, Proc.devRef .tc (main_v22 : Ref sig .tc)) = W6 m d (Proc.devRef .tc (main_v22 : Ref sig .tc))
    ∧ s'.mem.mem (d, Proc.devRef .tc (main_arg0 : Ref sig .tc)) = W6 m d (Proc.devRef .tc (main_arg0 : Ref sig .tc))
    ∧ s'.mem.mem (d, Proc.devRef .tc (main_arg1 : Ref sig .tc)) = W6 m d (Proc.devRef .tc (main_arg1 : Ref sig .tc))

theorem hfin (d : Dev nD) (s' : Phys nD τ sig (Elt F)) :
    iprop(StableHlo.held (T d : Thread nD τ) (Pipeline.ucRefs τ sig) (W6 m d) ∗ SI s') ⊢ (⌜fq m d s'⌝ : sProp (MM F)) := by
  iintro H
  ihave H := (persistent_entails_right (held_agree d (W6 m d) (Proc.devRef .tc (main_v22 : Ref sig .tc)) (by decide) s')) $$ H
  icases H with ⟨%h1, H⟩
  ihave H := (persistent_entails_right (held_agree d (W6 m d) (Proc.devRef .tc (main_arg0 : Ref sig .tc)) (by decide) s')) $$ H
  icases H with ⟨%h2, H⟩
  ihave H := (held_agree d (W6 m d) (Proc.devRef .tc (main_arg1 : Ref sig .tc)) (by decide) s') $$ H
  icases H with %h3
  ipureintro; exact ⟨h1, h2, h3⟩

/-- The run of the whole program, codes in range. -/
theorem run_main [∀ e, Nonempty (Elt F e)] (hC : ∀ d x, (codeV m d x).toNat < 8388608) :
    θ_run (Cert.KernelIdeal.defs (F := F)) (Cert.KernelIdeal.threads (F := F)) ⟨m, fun _ => 0, ρ⟩
      fun r => (∀ d : Dev nD, r.2.mem (d, Proc.devRef .tc (main_v22 : Ref sig .tc)) = W6 m d (Proc.devRef .tc (main_v22 : Ref sig .tc))
        ∧ r.2.mem (d, Proc.devRef .tc (main_arg0 : Ref sig .tc)) = W6 m d (Proc.devRef .tc (main_arg0 : Ref sig .tc))
        ∧ r.2.mem (d, Proc.devRef .tc (main_arg1 : Ref sig .tc)) = W6 m d (Proc.devRef .tc (main_arg1 : Ref sig .tc))) ∧ r.2.sem = fun _ => 0 :=
  SparseCore.Cfg.θ_run_sc_quiescent (K := K (F := F)) (D := D (F := F)) (𝒱 := 𝒱) (EH := EH) (P := payV m) (A := ∅) facts v₀
    (fun q hq => match q with | 0 => nomatch hq)
    (fun q _ => match q with | 0 => tileObl (tabV m) (codeV m) (probV m) (oldV m) hC)
    (fun q _ => match q with | 0 => SparseCore.Cfg.VecSplit.of_plain (vecSplit (tabV m) (codeV m) (probV m) (oldV m)))
    m ρ main (GG (F := F)) (fun d => StableHlo.held (T d : Thread nD τ) (Pipeline.ucRefs τ sig) (W6 m d)) (u₀ (F := F))
    (sep_elim_left.trans (hu₀ (tabV m) (codeV m) (probV m) (oldV m))) (hmain m ρ) (fq m) (hfin m) _ (fun _ h hz => ⟨h, hz⟩)

end Main

end Cert.Proof.Lsh

end
-- ==== Proof.Hash.lean ====
/- The hash of sixteen numbers, the logarithm of its probability, and the row of the shuffled table a hash names: plain arithmetic. -/
module

public import Idealize.ShloMosaic.PureOps.Ideal
public import Idealize.ShloMosaic.Lib.IdealHost

@[expose] public section

noncomputable section

namespace Cert.Proof.Lsh

open Idealize.ShloMosaic

/-- The position of the `j`-th number of group `k` in its token's row. -/
def own (k : Fin 128) (j : Fin 16) : Fin 2048 := ⟨16 * k.val + j.val, by omega⟩

/-- The sign bit the hash takes of a number: one where it is at least zero. -/
def bitN (a : EReal) : ℕ := if 0 ≤ a then 1 else 0

/-- The hash of sixteen numbers: their sign bits, the first the most significant. -/
def hashN (x : Fin 16 → EReal) : ℕ := ∑ j : Fin 16, bitN (x j) * 2 ^ (15 - j.val)

/-- The logarithm of the logistic function at twice a number, in the form that does not overflow. -/
def logSig (a : EReal) : EReal := min (2 * a) 0 - Ideal.log (1 + Ideal.exp (0 - max (2 * a) (-(2 * a))))

/-- The probability that goes with sixteen numbers' hash. -/
def probOf (x : Fin 16 → EReal) : EReal := Ideal.exp (∑ j : Fin 16, logSig (x j))

/-- The row of the shuffled table that holds group `k`'s chunk of hash `h`. -/
def codeN (h k : ℕ) : ℕ := h / 8 * 1024 + h % 8 * 8 + k / 8 * 64 + k % 8

theorem bitN_le (a : EReal) : bitN a ≤ 1 := by unfold bitN; split <;> omega

/-- A hash has sixteen bits. -/
theorem hashN_lt (x : Fin 16 → EReal) : hashN x < 65536 := by
  have h : hashN x ≤ ∑ j : Fin 16, 1 * 2 ^ (15 - j.val) := Finset.sum_le_sum fun j _ => Nat.mul_le_mul_right _ (bitN_le _)
  have e : (∑ j : Fin 16, 1 * 2 ^ (15 - j.val)) = 65535 := by decide
  omega

theorem codeN_lt {h k : ℕ} (hh : h < 65536) (hk : k < 128) : codeN h k < 8388608 := by unfold codeN; omega

/-- A sum over a row's positions of terms that vanish outside group `k` is the sum over the group. -/
theorem sum_own {M : Type} [AddCommMonoid M] (f : Fin 2048 → M) (k : Fin 128) (hf : ∀ t, t.val / 16 ≠ k.val → f t = 0) :
    ∑ t, f t = ∑ j : Fin 16, f (own k j) := by
  symm
  refine Finset.sum_of_injOn (own k) ?_ (fun _ _ => Finset.mem_coe.2 (Finset.mem_univ _)) ?_ (fun _ _ => rfl)
  · intro a _ b _ h
    have := congrArg Fin.val h
    unfold own at this
    apply Fin.ext
    simp only at this
    omega
  · intro t _ ht
    refine hf t fun e => ht ⟨⟨t.val % 16, Nat.mod_lt _ (by decide)⟩, Finset.mem_coe.2 (Finset.mem_univ _), ?_⟩
    apply Fin.ext
    simp only [own]
    omega

/-- The sum of naturals read as extended reals. -/
theorem sum_natCast {n : ℕ} (f : Fin n → ℕ) : (∑ i, (((f i : ℕ) : ℝ) : EReal)) = (((∑ i, f i : ℕ) : ℝ) : EReal) := by
  rw [Nat.cast_sum]
  exact (map_sum (⟨⟨fun r : ℝ => (r : EReal), EReal.coe_zero⟩, EReal.coe_add⟩ : ℝ →+ EReal) _ _).symm

/-- The conversion of a natural that fits to an integer word. -/
theorem fptosi_nat (n : ℕ) (h : n < 2 ^ 31) : Ideal.fptosi 32 ((n : ℝ) : EReal) = BitVec.ofNat 32 n := by
  unfold Ideal.fptosi
  rw [Ideal.toIntClamped_coe, if_pos (Nat.cast_nonneg n), Int.floor_natCast]
  have e : max (-((2 ^ (32 - 1) : ℕ) : ℤ)) (min (((2 ^ (32 - 1) : ℕ) : ℤ) - 1) (n : ℤ)) = (n : ℤ) := by omega
  rw [e]
  exact BitVec.ofInt_natCast 32 n

/-- The word the preparation computes of a hash and a column is the row's number. -/
theorem codeWord_toNat (h k : ℕ) (hh : h < 65536) (hk : k < 128) :
    ((BitVec.ofNat 32 h).sshiftRight 3 * 1024#32 + (BitVec.ofNat 32 h &&& 7#32) * 8#32
      + (BitVec.ofNat 32 k).sshiftRight 3 * 64#32 + (BitVec.ofNat 32 k &&& 7#32)).toNat = codeN h k := by
  have sh : ∀ n, n < 65536 → ((BitVec.ofNat 32 n).sshiftRight 3).toNat = n / 8 := fun n hn => by
    rw [BitVec.toNat_sshiftRight_of_msb_false (by rw [BitVec.msb_eq_decide, decide_eq_false_iff_not, BitVec.toNat_ofNat]; omega),
      BitVec.toNat_ofNat, Nat.shiftRight_eq_div_pow]
    omega
  have an : ∀ n, n < 65536 → (BitVec.ofNat 32 n &&& 7#32).toNat = n % 8 := fun n hn => by
    rw [BitVec.toNat_and, BitVec.toNat_ofNat, BitVec.toNat_ofNat]
    have : (7 % 2 ^ 32 : ℕ) = 2 ^ 3 - 1 := rfl
    rw [this, Nat.and_two_pow_sub_one_eq_mod]
    omega
  simp only [BitVec.toNat_add, BitVec.toNat_mul, sh h hh, sh k (by omega), an h hh, an k (by omega), BitVec.toNat_ofNat]
  unfold codeN
  omega

/-- The word one matrix entry is made of, where the row is the column's own. -/
theorem weightWord (t k : ℕ) (ht : t < 2048) (hk : k < 128) :
    ((BitVec.ofNat 32 t).sshiftRight 4 = BitVec.ofNat 32 k) ↔ t / 16 = k := by
  have e : ((BitVec.ofNat 32 t).sshiftRight 4).toNat = t / 16 := by
    rw [BitVec.toNat_sshiftRight_of_msb_false (by rw [BitVec.msb_eq_decide, decide_eq_false_iff_not, BitVec.toNat_ofNat]; omega),
      BitVec.toNat_ofNat, Nat.shiftRight_eq_div_pow]
    omega
  rw [← BitVec.toNat_inj, e, BitVec.toNat_ofNat]
  omega

/-- The power of two a row's position in its group stands for, and that the shift is within the word. -/
theorem powWord (t : ℕ) :
    (15#32 - (BitVec.ofNat 32 t &&& 15#32)).toNat < 32
      ∧ ((1#32 <<< ((15#32 - (BitVec.ofNat 32 t &&& 15#32)).toNat)).toInt) = ((2 ^ (15 - t % 16) : ℕ) : ℤ) := by
  have an : (BitVec.ofNat 32 t &&& 15#32) = BitVec.ofNat 32 (t % 16) := by
    apply BitVec.eq_of_toNat_eq
    rw [BitVec.toNat_and, BitVec.toNat_ofNat, BitVec.toNat_ofNat, BitVec.toNat_ofNat]
    have : (15 % 2 ^ 32 : ℕ) = 2 ^ 4 - 1 := rfl
    rw [this, Nat.and_two_pow_sub_one_eq_mod]
    omega
  rw [an]
  have h : t % 16 < 16 := Nat.mod_lt _ (by decide)
  generalize t % 16 = j at h
  have all : ∀ j : Fin 16, (15#32 - BitVec.ofNat 32 j.val).toNat < 32
      ∧ ((1#32 <<< ((15#32 - BitVec.ofNat 32 j.val).toNat)).toInt) = ((2 ^ (15 - j.val) : ℕ) : ℤ) := by decide
  exact all ⟨j, h⟩

end Cert.Proof.Lsh

end
-- ==== Proof.Codes.lean ====
/- What one block's payloads hold over the extended reals: the codes and the probabilities at an index. -/
module

public import proofs.«01_k».proof.Proof.Main
public import proofs.«01_k».proof.Proof.Hash
public import Idealize.ShloMosaic.Lib.Pointwise.Tactic
public import Idealize.ShloMosaic.Lib.Pointwise

@[expose] public section

set_option maxRecDepth 16384

noncomputable section

namespace Cert.Proof.Lsh

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The two weight matrices -/

/-- The weights of the hash: in a row of the column's own group, the power of two of the row's place in it. -/
def wgtCode : S2048x128.Idx → EReal := fun x => ((((if (x 0).val / 16 = (x 1).val then 2 ^ (15 - (x 0).val % 16) else 0 : ℕ)) : ℝ) : EReal)
/-- The weights of the sum over a group: one in its rows. -/
def wgtOne : S2048x128.Idx → EReal := fun x => ((((if (x 0).val / 16 = (x 1).val then 1 else 0 : ℕ)) : ℝ) : EReal)

variable (W0 : Dev nD → Valuation τ sig (Elt Ideal))

/-- Where a row of a weight matrix is its column's own, as the host computes it. -/
def ownHost : IVec S2048x128 1 :=
  cmpi .eq (Host.shrsi (iotaInDim S2048x128 32 0) (broadcastInDim S2048x128 ![] bcast_S_S2048x128 (constantI S_ 32 4#32))) (iotaInDim S2048x128 32 1)

/-- The first weight matrix as the host computes it. -/
def codeHost : FVec Ideal S2048x128 .f32 :=
  sitofp .f32 (select ownHost
    (Host.shli (broadcastInDim S2048x128 ![] bcast_S_S2048x128 (constantI S_ 32 1#32))
      (subi (broadcastInDim S2048x128 ![] bcast_S_S2048x128 (constantI S_ 32 15#32))
        (andi (iotaInDim S2048x128 32 0) (broadcastInDim S2048x128 ![] bcast_S_S2048x128 (constantI S_ 32 15#32)))))
    (broadcastInDim S2048x128 ![] bcast_S_S2048x128 (constantI S_ 32 0#32)))

/-- The second weight matrix as the host computes it. -/
def oneHost : FVec Ideal S2048x128 .f32 :=
  sitofp .f32 (select ownHost (broadcastInDim S2048x128 ![] bcast_S_S2048x128 (constantI S_ 32 1#32))
    (broadcastInDim S2048x128 ![] bcast_S_S2048x128 (constantI S_ 32 0#32)))

/-- The host's test says whether the row belongs to the column's group. -/
theorem ownHost_apply (t : Fin 2048) (k : Fin 128) : ownHost (ix2 t k) = BitVec.ofBool (decide (t.val / 16 = k.val)) := by
  unfold ownHost
  pointwise
  have e : IntOp.shrsi ArithUnit.host (BitVec.ofNat 32 t.val) 4#32 = (BitVec.ofNat 32 t.val).sshiftRight 4 := rfl
  rw [e]
  unfold IntOp.cmpi
  refine congrArg BitVec.ofBool ?_
  show (_ == _) = _
  rw [beq_eq_decide]
  exact decide_eq_decide.2 (weightWord t.val k.val t.isLt k.isLt)

/-- The first weight matrix holds the weights of the hash. -/
theorem codeHost_eq : codeHost = wgtCode := by
  funext x
  obtain ⟨t, k, rfl⟩ : ∃ t k, x = ix2 t k := ⟨x 0, x 1, by funext a; match a with | ⟨0, _⟩ => rfl | ⟨1, _⟩ => rfl⟩
  unfold codeHost
  pointwise
  rw [ownHost_apply]
  show (((BitVec.toInt _ : ℤ) : ℝ) : EReal) = ((((if t.val / 16 = k.val then 2 ^ (15 - t.val % 16) else 0 : ℕ)) : ℝ) : EReal)
  by_cases h : t.val / 16 = k.val
  · rw [if_pos h, decide_eq_true h]
    obtain ⟨hlt, hv⟩ := powWord t.val
    have e : IntOp.shli ArithUnit.host (1#32) (IntOp.subi (15#32) (IntOp.andi (BitVec.ofNat 32 t.val) 15#32))
        = 1#32 <<< ((15#32 - (BitVec.ofNat 32 t.val &&& 15#32)).toNat) := if_pos hlt
    show (((BitVec.toInt (IntOp.shli ArithUnit.host (1#32) (IntOp.subi (15#32) (IntOp.andi (BitVec.ofNat 32 t.val) 15#32))) : ℤ) : ℝ) : EReal) = _
    rw [e, hv, Int.cast_natCast]
  · rw [if_neg h, decide_eq_false h]
    show (((BitVec.toInt (0#32) : ℤ) : ℝ) : EReal) = _
    simp

/-- The second weight matrix holds ones in each column's own rows. -/
theorem oneHost_eq : oneHost = wgtOne := by
  funext x
  obtain ⟨t, k, rfl⟩ : ∃ t k, x = ix2 t k := ⟨x 0, x 1, by funext a; match a with | ⟨0, _⟩ => rfl | ⟨1, _⟩ => rfl⟩
  unfold oneHost
  pointwise
  rw [ownHost_apply]
  show (((BitVec.toInt _ : ℤ) : ℝ) : EReal) = ((((if t.val / 16 = k.val then 1 else 0 : ℕ)) : ℝ) : EReal)
  by_cases h : t.val / 16 = k.val
  · rw [if_pos h, decide_eq_true h]
    show (((BitVec.toInt (1#32) : ℤ) : ℝ) : EReal) = _
    have : BitVec.toInt (1#32) = 1 := by decide
    rw [this]; simp
  · rw [if_neg h, decide_eq_false h]
    show (((BitVec.toInt (0#32) : ℤ) : ℝ) : EReal) = _
    simp

/-- Before the preparation, the first matrix's buffer holds the weights of the hash. -/
theorem W3_code (c : Dev nD) : W3 W0 c (Proc.devRef .tc (main_v17 : Ref sig .tc)) = wgtCode := by
  refine Eq.trans ?_ codeHost_eq
  show StableHlo.after opsB (W2 W0 c) _ = _
  simp only [opsB]
  after_results_simp
  rfl

/-- Before the preparation, the second matrix's buffer holds ones in each column's own rows. -/
theorem W3_one (c : Dev nD) : W3 W0 c (Proc.devRef .tc (main_v19 : Ref sig .tc)) = wgtOne := by
  refine Eq.trans ?_ oneHost_eq
  show StableHlo.after opsB (W2 W0 c) _ = _
  simp only [opsB]
  after_results_simp
  rfl

/-! ## The payloads at an index -/

/-- Two times, as the kernel's constant reads. -/
theorem two_f32 : Ideal.ofBits .f32 0x40000000#32 = 2 := by
  rw [show (2 : EReal) = ((2 : ℝ) : EReal) by norm_cast]
  simp [Ideal.ofBits, Ideal.ieee, -EReal.coe_mul]; norm_num

/-- A product with a group's weights is nothing outside the group. -/
theorem wgtOne_sum (f : Fin 2048 → EReal) (k : Fin 128) :
    ∑ t, f t * wgtOne (ix2 t k) = ∑ j, f (own k j) := by
  rw [sum_own _ k fun t ht => by
    show f t * (((if t.val / 16 = k.val then 1 else 0 : ℕ) : ℝ) : EReal) = 0
    rw [if_neg ht, Nat.cast_zero, EReal.coe_zero, mul_zero]]
  refine Finset.sum_congr rfl fun j _ => ?_
  show f (own k j) * (((if (own k j).val / 16 = k.val then 1 else 0 : ℕ) : ℝ) : EReal) = _
  rw [if_pos (by simp only [own]; omega), Nat.cast_one, EReal.coe_one, mul_one]

/-- The probabilities of a block: at token `r` and group `k`, of the group's sixteen numbers. -/
theorem probs_apply (v0 : Vec Ideal S512x2048 .f32) (r : Fin 512) (k : Fin 128) :
    k1_pay2 (k1_pay4 v0 wgtOne) (ix2 r k) = probOf fun j => v0 (ix2 r (own k j)) := by
  unfold k1_pay2 k1_pay4 k1_pay3
  pointwise
  rw [wgtOne_sum, two_f32]
  rfl

/-- A sign bit as a word, read back as a number. -/
theorem sign_word (a : EReal) :
    FloatOps.sitofp (F := Ideal) FTy.f32 (BitVec.setWidth 32 (BitVec.ofBool (decide (0 ≤ a)))) = ((bitN a : ℝ) : EReal) := by
  unfold bitN
  by_cases h : 0 ≤ a
  · rw [if_pos h, decide_eq_true h]
    show (((BitVec.toInt (1#32) : ℤ) : ℝ) : EReal) = _
    have : BitVec.toInt (1#32) = 1 := by decide
    rw [this]; simp
  · rw [if_neg h, decide_eq_false h]
    show (((BitVec.toInt (0#32) : ℤ) : ℝ) : EReal) = _
    simp

/-- The product with the hash's weights is the hash. -/
theorem wgtCode_sum (f : Fin 2048 → EReal) (k : Fin 128) :
    ∑ t, FloatOps.sitofp (F := Ideal) FTy.f32 (BitVec.setWidth 32 (BitVec.ofBool (decide (0 ≤ f t)))) * wgtCode (ix2 t k)
      = ((hashN fun j => f (own k j) : ℝ) : EReal) := by
  rw [sum_own _ k fun t ht => by
    show _ * (((if t.val / 16 = k.val then 2 ^ (15 - t.val % 16) else 0 : ℕ) : ℝ) : EReal) = 0
    rw [if_neg ht, Nat.cast_zero, EReal.coe_zero, mul_zero]]
  unfold hashN
  rw [← sum_natCast]
  refine Finset.sum_congr rfl fun j _ => ?_
  show _ * (((if (own k j).val / 16 = k.val then 2 ^ (15 - (own k j).val % 16) else 0 : ℕ) : ℝ) : EReal) = _
  rw [if_pos (by simp only [own]; omega), sign_word, ← EReal.coe_mul, ← Nat.cast_mul]
  have e : (own k j).val % 16 = j.val := by simp only [own]; omega
  rw [e]

/-- The codes of a block: at token `r` and group `k`, the row of the shuffled table that the group's hash names. -/
theorem codes_apply (v0 : Vec Ideal S512x2048 .f32) (r : Fin 512) (k : Fin 128) :
    (k1_pay1 (iota .tc S512x128 32 [1] iota_S512x128_d1_w32) (k1_pay5 (F := Ideal) v0 wgtCode) (ix2 r k)).toNat
      = codeN (hashN fun j => v0 (ix2 r (own k j))) k := by
  unfold k1_pay1 k1_pay5 k1_pay3
  pointwise
  rw [wgtCode_sum (fun t => v0 (ix2 r t)) k]
  have e : FloatOps.fptosi (F := Ideal) (φ := .f32) 32 ((hashN fun j => v0 (ix2 r (own k j)) : ℝ) : EReal) = BitVec.ofNat 32 (hashN fun j => v0 (ix2 r (own k j))) :=
    fptosi_nat _ (by have := hashN_lt fun j => v0 (ix2 r (own k j)); omega)
  rw [e]
  exact codeWord_toNat _ _ (hashN_lt _) k.isLt

/-- The shuffle of a block: group `g` of eight rows' sixteen pieces, each eight rows of one of the sixteen 128-wide strips of the columns. -/
theorem shuf_apply (v0 : Vec Ideal S2048x512 .f32) (r : Fin 8192) (l : Fin 128) :
    k0_pay1 (F := Ideal) v0 (ix2 r l) = v0 (ix2 ⟨r.val / 8 % 16 * 128 + l.val, by omega⟩ ⟨r.val / 128 * 8 + r.val % 8, by omega⟩) := by
  unfold k0_pay1
  pointwise

end Cert.Proof.Lsh
end
-- ==== Proof.Arrays.lean ====
/- What the two TensorCore calls leave in their arrays, at an index, over the extended reals. -/
module

public import proofs.«01_k».proof.Proof.Codes

@[expose] public section

set_option maxRecDepth 16384

noncomputable section

namespace Cert.Proof.Lsh

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

/-! ## One block through the body's loads and stores -/

theorem zero2 : (![0, 0] : Fin 2 → Nat) = fun _ => 0 := funext fun a => by fin_cases a <;> rfl

theorem shufOut_eq (x : Vec Ideal S2048x512 .f32) : shufOut x = k0_pay1 x := by
  unfold shufOut rShuf rTab
  rw [View.canon_cons_unit_zero (S := S8192x128) zero2, View.ld_unit_zero (S := S2048x512) zero2]

theorem codeOut_eq (x : Vec Ideal S512x2048 .f32) (wc : Vec Ideal S2048x128 .f32) :
    codeOut x wc = k1_pay1 (iota .tc S512x128 32 [1] iota_S512x128_d1_w32) (k1_pay5 x wc) := by
  unfold codeOut rCode rTok rWgt
  rw [View.canon_cons_unit_zero (S := S512x128) zero2, View.ld_unit_zero (S := S512x2048) zero2, View.ld_unit_zero (S := S2048x128) zero2]

theorem probOut_eq (x : Vec Ideal S512x2048 .f32) (ws : Vec Ideal S2048x128 .f32) :
    probOut x ws = k1_pay2 (k1_pay4 x ws) := by
  unfold probOut rCode rTok rWgt
  rw [View.canon_cons_unit_zero (S := S512x128) zero2, View.ld_unit_zero (S := S512x2048) zero2, View.ld_unit_zero (S := S2048x128) zero2]

/-! ## The windows' places -/

theorem N0 : grid0.N = 128 := by decide
theorem N1 : grid1.N = 8 := by decide
theorem lt0 (t : Fin grid0.N) : t.val < 128 := lt_of_lt_of_eq t.isLt N0
theorem lt1 (t : Fin grid1.N) : t.val < 8 := lt_of_lt_of_eq t.isLt N1

/-- The shuffle's point `t` takes column block `t` and leaves row block `t`; -/
theorem place0 : ∀ t : Fin grid0.N, (cc0_transform_0 (grid0.coords t) 0 = 0 ∧ cc0_transform_0 (grid0.coords t) 1 = t.val)
    ∧ (cc0_transform_1 (grid0.coords t) 0 = t.val ∧ cc0_transform_1 (grid0.coords t) 1 = 0) := by decide +kernel
/-- the preparation's takes and leaves row block `t`, and both weight matrices whole. -/
theorem place1 : ∀ t : Fin grid1.N, (cc1_transform_0 (grid1.coords t) 0 = t.val ∧ cc1_transform_0 (grid1.coords t) 1 = 0)
    ∧ (cc1_transform_1 (grid1.coords t) 0 = 0 ∧ cc1_transform_1 (grid1.coords t) 1 = 0)
    ∧ (cc1_transform_2 (grid1.coords t) 0 = 0 ∧ cc1_transform_2 (grid1.coords t) 1 = 0)
    ∧ (cc1_transform_3 (grid1.coords t) 0 = t.val ∧ cc1_transform_3 (grid1.coords t) 1 = 0)
    ∧ (cc1_transform_4 (grid1.coords t) 0 = t.val ∧ cc1_transform_4 (grid1.coords t) 1 = 0) := by decide +kernel

variable (V : (c : Dev nD) → (b : Ref sig .tc) → Buf (Elt Ideal) ((c : Thread nD τ).loc b)) (c : Dev nD)

/-- Row `r` of a point's block of 512 tokens. -/
def tokRow (t : Fin grid1.N) (r : Fin 512) : Fin 4096 := ⟨512 * t.val + r.val, by have := lt1 t; omega⟩

theorem tok_block (t : Fin grid1.N) (r : Fin 512) (l : Fin 2048) :
    blk1 V c 0 t (ix2 r l) = V c main_v0 (ix2 (tokRow t r) l) := by
  show V c main_v0 (((cfg1.win 0).rect t).emb (ix2 r l)) = _
  refine congrArg (V c main_v0) (Shape.idx_ext₂ ?_ ?_)
  · refine ((cfg1.win 0).rect_emb_val t (ix2 r l) 0).trans ?_
    show cc1_transform_0 (grid1.coords t) 0 * 512 + r.val = 512 * t.val + r.val
    rw [(place1 t).1.1]; omega
  · refine ((cfg1.win 0).rect_emb_val t (ix2 r l) 1).trans ?_
    show cc1_transform_0 (grid1.coords t) 1 * 2048 + l.val = l.val
    rw [(place1 t).1.2]; omega

theorem code_block (t : Fin grid1.N) : blk1 V c 1 t = V c main_v17 := by
  funext y
  show V c main_v17 (((cfg1.win 1).rect t).emb y) = _
  refine congrArg (V c main_v17) (Shape.idx_ext₂ ?_ ?_)
  · refine ((cfg1.win 1).rect_emb_val t y 0).trans ?_
    show cc1_transform_1 (grid1.coords t) 0 * 2048 + (y 0).val = (y 0).val
    rw [(place1 t).2.1.1]; omega
  · refine ((cfg1.win 1).rect_emb_val t y 1).trans ?_
    show cc1_transform_1 (grid1.coords t) 1 * 128 + (y 1).val = (y 1).val
    rw [(place1 t).2.1.2]; omega

theorem one_block (t : Fin grid1.N) : blk1 V c 2 t = V c main_v19 := by
  funext y
  show V c main_v19 (((cfg1.win 2).rect t).emb y) = _
  refine congrArg (V c main_v19) (Shape.idx_ext₂ ?_ ?_)
  · refine ((cfg1.win 2).rect_emb_val t y 0).trans ?_
    show cc1_transform_2 (grid1.coords t) 0 * 2048 + (y 0).val = (y 0).val
    rw [(place1 t).2.2.1.1]; omega
  · refine ((cfg1.win 2).rect_emb_val t y 1).trans ?_
    show cc1_transform_2 (grid1.coords t) 1 * 128 + (y 1).val = (y 1).val
    rw [(place1 t).2.2.1.2]; omega

/-! ## The codes and the probabilities -/

/-- The sixteen numbers of a token's group. -/
def grp (X : S4096x2048.Idx → EReal) (n : Fin 4096) (k : Fin 128) : Fin 16 → EReal := fun j => X (ix2 n (own k j))

/-- Every token's codes, -/
def codesOf (X : S4096x2048.Idx → EReal) : S4096x128.Idx → BitVec 32 := fun x => BitVec.ofNat 32 (codeN (hashN (grp X (x 0) (x 1))) (x 1).val)
/-- and probabilities. -/
def probsOf (X : S4096x2048.Idx → EReal) : S4096x128.Idx → EReal := fun x => probOf (grp X (x 0) (x 1))

theorem codes_place (t : Fin grid1.N) (r : Fin 512) (k : Fin 128) :
    ((cfg1.win 3).rect t).emb (ix2 r k) = ix2 (tokRow t r) k := by
  refine Shape.idx_ext₂ ?_ ?_
  · refine ((cfg1.win 3).rect_emb_val t (ix2 r k) 0).trans ?_
    show cc1_transform_3 (grid1.coords t) 0 * 512 + r.val = 512 * t.val + r.val
    rw [(place1 t).2.2.2.1.1]; omega
  · refine ((cfg1.win 3).rect_emb_val t (ix2 r k) 1).trans ?_
    show cc1_transform_3 (grid1.coords t) 1 * 128 + k.val = k.val
    rw [(place1 t).2.2.2.1.2]; omega

theorem probs_place (t : Fin grid1.N) (r : Fin 512) (k : Fin 128) :
    ((cfg1.win 4).rect t).emb (ix2 r k) = ix2 (tokRow t r) k := by
  refine Shape.idx_ext₂ ?_ ?_
  · refine ((cfg1.win 4).rect_emb_val t (ix2 r k) 0).trans ?_
    show cc1_transform_4 (grid1.coords t) 0 * 512 + r.val = 512 * t.val + r.val
    rw [(place1 t).2.2.2.2.1]; omega
  · refine ((cfg1.win 4).rect_emb_val t (ix2 r k) 1).trans ?_
    show cc1_transform_4 (grid1.coords t) 1 * 128 + k.val = k.val
    rw [(place1 t).2.2.2.2.2]; omega

variable (hc : V c main_v17 = wgtCode) (ho : V c main_v19 = wgtOne)
include hc in
theorem codes_flushed (t : Fin cfg1.N) :
    (prepDat V c).flushed 3 t = ((cfg1.win 3).blk t).view.read (Elt Ideal) (codesOf (V c main_v0)) := by
  show (cfg1.win 3).cut (grid1.coords t) ((prepDat V c).after 3 t) = _
  rw [prep_after3, codeOut_eq, code_block, hc]
  funext y
  obtain ⟨r, k, rfl⟩ : ∃ (r : Fin 512) (k : Fin 128), y = ix2 r k := ⟨y 0, y 1, Shape.idx_ext₂ rfl rfl⟩
  show k1_pay1 _ _ (ix2 r k) = codesOf (V c main_v0) (((cfg1.win 3).rect t).emb (ix2 r k))
  rw [codes_place]
  apply BitVec.eq_of_toNat_eq
  refine (codes_apply (blk1 V c 0 t) r k).trans ?_
  have e : (fun j => blk1 V c 0 t (ix2 r (own k j))) = grp (V c main_v0) (tokRow t r) k :=
    funext fun j => tok_block V c t r (own k j)
  rw [e]
  have hl := codeN_lt (hashN_lt (grp (V c main_v0) (tokRow t r) k)) k.isLt
  show _ = (BitVec.ofNat 32 (codeN (hashN (grp (V c main_v0) (tokRow t r) k)) k.val)).toNat
  rw [BitVec.toNat_ofNat]; omega

include ho in
theorem probs_flushed (t : Fin cfg1.N) :
    (prepDat V c).flushed 4 t = ((cfg1.win 4).blk t).view.read (Elt Ideal) (probsOf (V c main_v0)) := by
  show (cfg1.win 4).cut (grid1.coords t) ((prepDat V c).after 4 t) = _
  rw [prep_after4, probOut_eq, one_block, ho]
  funext y
  obtain ⟨r, k, rfl⟩ : ∃ (r : Fin 512) (k : Fin 128), y = ix2 r k := ⟨y 0, y 1, Shape.idx_ext₂ rfl rfl⟩
  show k1_pay2 (F := Ideal) _ (ix2 r k) = probsOf (V c main_v0) (((cfg1.win 4).rect t).emb (ix2 r k))
  rw [probs_place]
  refine (probs_apply (blk1 V c 0 t) r k).trans ?_
  have e : (fun j => blk1 V c 0 t (ix2 r (own k j))) = grp (V c main_v0) (tokRow t r) k :=
    funext fun j => tok_block V c t r (own k j)
  rw [e]
  rfl

/-- Every token is in some point's block. -/
theorem tok_split (n : Fin 4096) : ∃ (t : Fin grid1.N) (r : Fin 512), n = tokRow t r :=
  ⟨⟨n.val / 512, by rw [N1]; omega⟩, ⟨n.val % 512, Nat.mod_lt _ (by decide)⟩, Fin.ext (by simp only [tokRow]; omega)⟩

theorem codes_cover (i : S4096x128.Idx) : ∃ t : Fin cfg1.N, (cfg1.win 3).flush t = true ∧ i ∈ ((cfg1.win 3).blk t).view.set := by
  obtain ⟨n, k, rfl⟩ : ∃ (n : Fin 4096) (k : Fin 128), i = ix2 n k := ⟨i 0, i 1, Shape.idx_ext₂ rfl rfl⟩
  obtain ⟨t, r, rfl⟩ := tok_split n
  refine ⟨t, flush1_3 t, ?_⟩
  rw [← codes_place]
  exact View.emb_mem_set ((cfg1.win 3).blk t).view (ix2 r k)

theorem probs_cover (i : S4096x128.Idx) : ∃ t : Fin cfg1.N, (cfg1.win 4).flush t = true ∧ i ∈ ((cfg1.win 4).blk t).view.set := by
  obtain ⟨n, k, rfl⟩ : ∃ (n : Fin 4096) (k : Fin 128), i = ix2 n k := ⟨i 0, i 1, Shape.idx_ext₂ rfl rfl⟩
  obtain ⟨t, r, rfl⟩ := tok_split n
  refine ⟨t, flush1_4 t, ?_⟩
  rw [← probs_place]
  exact View.emb_mem_set ((cfg1.win 4).blk t).view (ix2 r k)

include hc in
/-- After the preparation the codes' array holds every token's codes, -/
theorem codes_arr : (prepDat V c).arrAt 3 cfg1.N = codesOf (V c main_v0) :=
  (prepDat V c).arrAt_eq_of_cover 3 (codesOf (V c main_v0)) (fun t _ => codes_flushed V c hc t) codes_cover
include ho in
/-- and the probabilities' array every token's probabilities. -/
theorem probs_arr : (prepDat V c).arrAt 4 cfg1.N = probsOf (V c main_v0) :=
  (prepDat V c).arrAt_eq_of_cover 4 (probsOf (V c main_v0)) (fun t _ => probs_flushed V c ho t) probs_cover

/-! ## The shuffled table -/

/-- The shuffled table of a table laid out flat: row `r` is piece `r / 8 % 16` of hash `r / 128 * 8 + r % 8`. -/
def shufOf (X : S2048x65536.Idx → EReal) : S1048576x128.Idx → EReal := fun x =>
  X (ix2 ⟨(x 0).val / 8 % 16 * 128 + (x 1).val, by have h : (x 1).val < 128 := (x 1).isLt; omega⟩
    ⟨(x 0).val / 128 * 8 + (x 0).val % 8, by have h : (x 0).val < 1048576 := (x 0).isLt; omega⟩)

/-- Row `r` of a point's block of 8192 rows of the shuffled table. -/
def shufRow (t : Fin grid0.N) (r : Fin 8192) : Fin 1048576 := ⟨8192 * t.val + r.val, by have := lt0 t; omega⟩

theorem shuf_place (t : Fin grid0.N) (r : Fin 8192) (l : Fin 128) :
    ((cfg0.win 1).rect t).emb (ix2 r l) = ix2 (shufRow t r) l := by
  refine Shape.idx_ext₂ ?_ ?_
  · refine ((cfg0.win 1).rect_emb_val t (ix2 r l) 0).trans ?_
    show cc0_transform_1 (grid0.coords t) 0 * 8192 + r.val = 8192 * t.val + r.val
    rw [(place0 t).2.1]; omega
  · refine ((cfg0.win 1).rect_emb_val t (ix2 r l) 1).trans ?_
    show cc0_transform_1 (grid0.coords t) 1 * 128 + l.val = l.val
    rw [(place0 t).2.2]; omega

theorem tab_block (t : Fin grid0.N) (r : Fin 2048) (l : Fin 512) :
    blk0 V c 0 t (ix2 r l) = V c main_v2 (ix2 r (⟨512 * t.val + l.val, by have := lt0 t; omega⟩ : Fin 65536)) := by
  show V c main_v2 (((cfg0.win 0).rect t).emb (ix2 r l)) = _
  refine congrArg (V c main_v2) (Shape.idx_ext₂ ?_ ?_)
  · refine ((cfg0.win 0).rect_emb_val t (ix2 r l) 0).trans ?_
    show cc0_transform_0 (grid0.coords t) 0 * 2048 + r.val = r.val
    rw [(place0 t).1.1]; omega
  · refine ((cfg0.win 0).rect_emb_val t (ix2 r l) 1).trans ?_
    show cc0_transform_0 (grid0.coords t) 1 * 512 + l.val = 512 * t.val + l.val
    rw [(place0 t).1.2]; omega

theorem shuf_flushed (t : Fin cfg0.N) :
    (shufDat V c).flushed 1 t = ((cfg0.win 1).blk t).view.read (Elt Ideal) (shufOf (V c main_v2)) := by
  show (cfg0.win 1).cut (grid0.coords t) ((shufDat V c).after 1 t) = _
  rw [shuf_after1, shufOut_eq]
  funext y
  obtain ⟨r, l, rfl⟩ : ∃ (r : Fin 8192) (l : Fin 128), y = ix2 r l := ⟨y 0, y 1, Shape.idx_ext₂ rfl rfl⟩
  show k0_pay1 (F := Ideal) _ (ix2 r l) = shufOf (V c main_v2) (((cfg0.win 1).rect t).emb (ix2 r l))
  rw [shuf_place]
  refine (shuf_apply (blk0 V c 0 t) r l).trans ?_
  rw [tab_block]
  refine congrArg (V c main_v2) (Shape.idx_ext₂ ?_ ?_)
  · show r.val / 8 % 16 * 128 + l.val = (8192 * t.val + r.val) / 8 % 16 * 128 + l.val
    omega
  · show 512 * t.val + (r.val / 128 * 8 + r.val % 8) = (8192 * t.val + r.val) / 128 * 8 + (8192 * t.val + r.val) % 8
    omega

theorem shuf_split (n : Fin 1048576) : ∃ (t : Fin grid0.N) (r : Fin 8192), n = shufRow t r :=
  ⟨⟨n.val / 8192, by rw [N0]; omega⟩, ⟨n.val % 8192, Nat.mod_lt _ (by decide)⟩, Fin.ext (by simp only [shufRow]; omega)⟩

theorem shuf_tiles (i : S1048576x128.Idx) : ∃ t : Fin cfg0.N, (cfg0.win 1).flush t = true ∧ i ∈ ((cfg0.win 1).blk t).view.set := by
  obtain ⟨n, k, rfl⟩ : ∃ (n : Fin 1048576) (k : Fin 128), i = ix2 n k := ⟨i 0, i 1, Shape.idx_ext₂ rfl rfl⟩
  obtain ⟨t, r, rfl⟩ := shuf_split n
  refine ⟨t, flush0_1 t, ?_⟩
  rw [← shuf_place]
  exact View.emb_mem_set ((cfg0.win 1).blk t).view (ix2 r k)

/-- After the shuffle its array holds the shuffled table. -/
theorem shuf_arr : (shufDat V c).arrAt 1 cfg0.N = shufOf (V c main_v2) :=
  (shufDat V c).arrAt_eq_of_cover 1 (shufOf (V c main_v2)) (fun t _ => shuf_flushed V c t) shuf_tiles

end Cert.Proof.Lsh
end
-- ==== Proof.Values.lean ====
/- The kernel's result over the extended reals, at an index: the table's chunk that the group's hash names, times the group's probability. -/
module

public import proofs.«01_k».proof.Proof.Arrays

@[expose] public section

set_option maxRecDepth 16384

noncomputable section

namespace Cert.Proof.Lsh

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

/-- The sixteen numbers that a place of the result comes from. -/
def nums (X : S2x2048x2048.Idx → EReal) (b : Fin 2) (s : Fin 2048) (k : Fin 128) : Fin 16 → EReal := fun j => X (ix3 b s (own k j))

/-- A number per token, group and place in the group. -/
abbrev S4out : Shape := ⟨4, ![2, 2048, 128, 16]⟩

/-- The layer's result: at token `(b, s)` and place `16 k + e`, entry `e` of the chunk of table `k` that the hash of the group's
    numbers names, times the group's probability. -/
def layer (X : S2x2048x2048.Idx → EReal) (T : S128x65536x16.Idx → EReal) : S4out.Idx → EReal := fun y =>
  T (ix3 (y 2) ⟨hashN (nums X (y 0) (y 1) (y 2)), hashN_lt _⟩ (y 3)) * probOf (nums X (y 0) (y 1) (y 2))

variable (m : (ℓ : Loc nD τ sig) → Buf (Elt Ideal) ℓ) (d : Dev nD)

/-- The activations and the table at launch. -/
abbrev actV : S2x2048x2048.Idx → EReal := Wm m d (Proc.devRef .tc (main_arg0 : Ref sig .tc))
abbrev lutV : S128x65536x16.Idx → EReal := Wm m d (Proc.devRef .tc (main_arg1 : Ref sig .tc))

/-- The activations the preparation reads are the argument's, a row per token. -/
theorem V3_act : V3 (Wm m) d main_v0 = shapeCast S4096x2048 (actV m d) shapeCasts_S2x2048x2048_S4096x2048 := by
  refine (W3_of (Wm m) d main_v0 (by decide)).trans ((W2_of (Wm m) d main_v0 (by decide)).trans ?_)
  show StableHlo.after opsA (Wm m d) _ = _
  simp only [opsA]
  after_results_simp
  rfl

/-- The table the shuffle reads is the argument's, an entry's hashes along a row. -/
theorem V1_lut : V1 (Wm m) d main_v2
    = shapeCast S2048x65536 (transpose S128x16x65536 [0, 2, 1] (lutV m d) transposes_S128x65536x16_S128x16x65536_0_2_1) shapeCasts_S128x16x65536_S2048x65536 := by
  show StableHlo.after opsA (Wm m d) _ = _
  simp only [opsA]
  after_results_simp
  rfl

/-- The gather's table. -/
theorem tab_eq : tabV m d = shapeCast S8388608x16 (shufOf (V1 (Wm m) d main_v2)) shapeCasts_S1048576x128_S8388608x16 := by
  refine (W4_of (Wm m) d main_v4 (by decide)).trans ?_
  have e : StableHlo.after opsB (W2 (Wm m) d) (Proc.devRef .tc (main_v4 : Ref sig .tc))
      = shapeCast S8388608x16 (W2 (Wm m) d (Proc.devRef .tc (main_v3 : Ref sig .tc))) shapeCasts_S1048576x128_S8388608x16 := by
    simp only [opsB]
    after_results_simp
    rfl
  refine e.trans (congrArg (fun A : S1048576x128.Idx → EReal => shapeCast S8388608x16 A shapeCasts_S1048576x128_S8388608x16) ?_)
  exact (W2_arr (Wm m) d 1).trans (shuf_arr (V1 (Wm m)) d)

/-- The codes the gather reads, -/
theorem code_eq : codeV m d = codesOf (V3 (Wm m) d main_v0) :=
  (W4_arr (Wm m) d 3).trans (codes_arr (V3 (Wm m)) d (W3_code (Wm m) d))
/-- and the probabilities. -/
theorem prob_eq : probV m d = probsOf (V3 (Wm m) d main_v0) :=
  (W4_arr (Wm m) d 4).trans (probs_arr (V3 (Wm m)) d (W3_one (Wm m) d))

/-- Every code names a row of the table. -/
theorem code_lt (x : S4096x128.Idx) : (codeV m d x).toNat < 8388608 := by
  rw [code_eq]
  show (BitVec.ofNat 32 (codeN (hashN (grp (V3 (Wm m) d main_v0) (x 0) (x 1))) (x 1).val)).toNat < 8388608
  have := codeN_lt (hashN_lt (grp (V3 (Wm m) d main_v0) (x 0) (x 1))) (x 1).isLt
  rw [BitVec.toNat_ofNat]; omega

/-- Row `codeN h k` of the gather's table is table `k`'s chunk of hash `h`. -/
theorem tab_apply (k : Fin 128) (h : Fin 65536) (e : Fin 16) :
    tabV m d (ix2 (⟨codeN h.val k.val, codeN_lt h.isLt k.isLt⟩ : Fin 8388608) e) = lutV m d (ix3 k h e) := by
  rw [tab_eq]
  pointwise
  unfold shufOf
  rw [V1_lut]
  pointwise
  have he : codeN h.val k.val = h.val / 8 * 1024 + h.val % 8 * 8 + k.val / 8 * 64 + k.val % 8 := rfl
  have hh := h.isLt
  have hk := k.isLt
  have hi := e.isLt
  refine congrArg (lutV m d) ?_
  congr 1 <;> apply Fin.ext <;> show _ = _ <;> simp only [he] <;> omega

/-- A token's row of the preparation's activations. -/
theorem grp_eq (b : Fin 2) (s : Fin 2048) (k : Fin 128) :
    grp (V3 (Wm m) d main_v0) ⟨2048 * b.val + s.val, by omega⟩ k = nums (actV m d) b s k := by
  funext j
  unfold grp nums
  rw [V3_act]
  pointwise

/-- The SparseCore call's result is the layer's, a row per group. -/
theorem out_apply (b : Fin 2) (s : Fin 2048) (k : Fin 128) (e : Fin 16) :
    outVal (tabV m d) (codeV m d) (probV m d) (ix2 (⟨(2048 * b.val + s.val) * 128 + k.val, by omega⟩ : Fin 524288) e)
      = layer (actV m d) (lutV m d) (ix4 b s k e) := by
  have hr : ((2048 * b.val + s.val) * 128 + k.val) / 128 = 2048 * b.val + s.val := by omega
  have hk : ((2048 * b.val + s.val) * 128 + k.val) % 128 = k.val := by omega
  show FloatOps.mulf (F := Ideal) (φ := .f32) (tabV m d (ix2 (codeAt (codeV m d) ⟨(2048 * b.val + s.val) * 128 + k.val, _⟩) e))
      (probV m d (ix2 ⟨((2048 * b.val + s.val) * 128 + k.val) / 128, _⟩ ⟨((2048 * b.val + s.val) * 128 + k.val) % 128, _⟩)) = _
  have hc : codeAt (codeV m d) ⟨(2048 * b.val + s.val) * 128 + k.val, by omega⟩
      = ⟨codeN (hashN (nums (actV m d) b s k)) k.val, codeN_lt (hashN_lt _) k.isLt⟩ := by
    apply Fin.ext
    have hl := codeN_lt (hashN_lt (nums (actV m d) b s k)) k.isLt
    show (codeV m d (ix2 ⟨((2048 * b.val + s.val) * 128 + k.val) / 128, _⟩ ⟨((2048 * b.val + s.val) * 128 + k.val) % 128, _⟩)).toNat % 8388608 = _
    rw [code_eq]
    show (BitVec.ofNat 32 (codeN (hashN (grp (V3 (Wm m) d main_v0) ⟨((2048 * b.val + s.val) * 128 + k.val) / 128, _⟩ ⟨((2048 * b.val + s.val) * 128 + k.val) % 128, _⟩))
      (((2048 * b.val + s.val) * 128 + k.val) % 128))).toNat % 8388608 = _
    simp only [hr, hk]
    rw [grp_eq, BitVec.toNat_ofNat]
    exact (show ∀ a : Nat, a < 8388608 → a % 2 ^ 32 % 8388608 = a from fun a ha => by omega) _ hl
  rw [hc, tab_apply m d k ⟨hashN (nums (actV m d) b s k), hashN_lt _⟩ e, prob_eq]
  show _ * probOf (grp (V3 (Wm m) d main_v0) ⟨((2048 * b.val + s.val) * 128 + k.val) / 128, _⟩ ⟨((2048 * b.val + s.val) * 128 + k.val) % 128, _⟩) = _
  simp only [hr, hk]
  rw [grp_eq]
  rfl

/-- The two shapes hold as many numbers. -/
theorem lays : S4out.ShapeCasts S2x2048x2048 := by decide

/-- A row per group and a place per token are the same numbers in the same order. -/
theorem rows_lay (A : S524288x16.Idx → EReal) (B : S4out.Idx → EReal)
    (h : ∀ (b : Fin 2) (s : Fin 2048) (k : Fin 128) (e : Fin 16), A (ix2 (⟨(2048 * b.val + s.val) * 128 + k.val, by omega⟩ : Fin 524288) e) = B (ix4 b s k e)) :
    shapeCast S2x2048x2048 A shapeCasts_S524288x16_S2x2048x2048 = shapeCast S2x2048x2048 B lays := by
  funext x
  obtain ⟨b, s, l, rfl⟩ : ∃ (b : Fin 2) (s l : Fin 2048), x = ix3 b s l :=
    ⟨x 0, x 1, x 2, by funext a; match a with | ⟨0, _⟩ => rfl | ⟨1, _⟩ => rfl | ⟨2, _⟩ => rfl⟩
  have := h b s ⟨l.val / 16, by omega⟩ ⟨l.val % 16, by omega⟩
  pointwise
  refine Eq.trans (congrArg A ?_) this
  have hn : b.val * 262144 + s.val * 128 + l.val / 16 = (2048 * b.val + s.val) * 128 + l.val / 16 := by omega
  exact congrArg (fun r : Fin 524288 => (ix2 r (⟨l.val % 16, by omega⟩ : Fin 16) : S524288x16.Idx)) (Fin.ext hn)

/-- The kernel's result is the layer's. -/
theorem result_eq : W6 m d (Proc.devRef .tc (main_v22 : Ref sig .tc))
    = shapeCast S2x2048x2048 (layer (actV m d) (lutV m d)) lays := by
  have e : W6 m d (Proc.devRef .tc (main_v22 : Ref sig .tc))
      = shapeCast S2x2048x2048 (W5 m d (Proc.devRef .tc (main_v21 : Ref sig .tc))) shapeCasts_S524288x16_S2x2048x2048 := by
    show StableHlo.after opsC (W5 m d) _ = _
    simp only [opsC]
    after_results_simp
    rfl
  have f : W5 m d (Proc.devRef .tc (main_v21 : Ref sig .tc)) = outVal (tabV m d) (codeV m d) (probV m d) := by
    unfold W5
    exact Function.update_self ..
  refine e.trans ((congrArg (fun A : S524288x16.Idx → EReal => shapeCast S2x2048x2048 A shapeCasts_S524288x16_S2x2048x2048) f).trans ?_)
  exact rows_lay _ _ (out_apply m d)

/-- The arguments end as they began. -/
theorem arg_kept (r : Ref sig .tc) (hr : r = main_arg0 ∨ r = main_arg1) : W6 m d (Proc.devRef .tc r) = m (d, Proc.devRef .tc r) := by
  have h1 : W6 m d (Proc.devRef .tc r) = W5 m d (Proc.devRef .tc r) :=
    StableHlo.after_of_writes_sub opsC _ opsC_writes (by rcases hr with rfl | rfl <;> decide)
  refine h1.trans ?_
  unfold W5
  rw [Function.update_of_ne (by rcases hr with rfl | rfl <;> decide)]
  exact W4_arg (Wm m) d r (by rcases hr with rfl | rfl <;> decide) (by rcases hr with rfl | rfl <;> decide)
    (by rcases hr with rfl | rfl <;> decide) (by rcases hr with rfl | rfl <;> decide)

end Cert.Proof.Lsh
end
-- ==== Proof.Frames.lean ====
/- The two programs' runs: each ends with its arguments unchanged and every semaphore counter at zero. -/
module

public import proofs.«01_k».proof.Defs
public import proofs.«01_k».proof.Proof.Values
public import proofs.«01_k».proof.Proof.Gen.ReferenceIdeal.Run

@[expose] public section

set_option maxRecDepth 16384

noncomputable section

namespace Cert.Proof.Lsh

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

/-- The kernel ends with the layer's result, its arguments unchanged and every counter at zero. -/
theorem run_kernel (m : (ℓ : Loc nD τ sig) → Buf (Elt Ideal) ℓ) (ρ : Dev nD → PrngReg) :
    θ_run (Cert.KernelIdeal.defs (F := Ideal)) (Cert.KernelIdeal.threads (F := Ideal)) ⟨m, fun _ => 0, ρ⟩ fun r =>
      (∀ d : Dev nD, r.2.mem ((d.tc : Thread nD τ).loc main_v22) = shapeCast S2x2048x2048 (layer (actV m d) (lutV m d)) lays
        ∧ r.2.mem ((d.tc : Thread nD τ).loc main_arg0) = m ((d.tc : Thread nD τ).loc main_arg0)
        ∧ r.2.mem ((d.tc : Thread nD τ).loc main_arg1) = m ((d.tc : Thread nD τ).loc main_arg1))
      ∧ r.2.sem = fun _ => 0 :=
  (θ_run _ _ _).mono (fun _ h => ⟨fun d => ⟨((h.1 d).1).trans (result_eq m d),
      ((h.1 d).2.1).trans (arg_kept m d main_arg0 (.inl rfl)), ((h.1 d).2.2).trans (arg_kept m d main_arg1 (.inr rfl))⟩, h.2⟩)
    (run_main (F := Ideal) m ρ (code_lt m))

/-- The kernel's frame. -/
theorem frame_kernel : Cert.quiescent_KernelIdeal := fun m ρ _ =>
  (θ_run _ _ _).mono (fun _ h => ⟨fun d => (h.1 d).2, h.2⟩) (run_kernel m ρ)

/-- The reference's frame: it declares no semaphore. -/
theorem frame_reference : Cert.quiescent_ReferenceIdeal := fun m ρ _ =>
  (θ_run _ _ _).mono (fun r h => ⟨fun c => (h c).2, Idealize.ShloMosaic.sem_eq_zero_of_no_sems (by decide) r.2⟩)
    (Cert.ReferenceIdeal.Value.run (F := Ideal) m ρ)

end Cert.Proof.Lsh
end
-- ==== Proof.RefCode.lean ====
/- The reference's hash at an index: the sum over a group of its bits times the powers of two. -/
module

public import proofs.«01_k».proof.Proof.Hash
public import proofs.«01_k».proof.Proof.Gen.ReferenceIdeal.Run
public import Idealize.ShloMosaic.Lib.Pointwise
public import Idealize.ShloMosaic.Lib.Pointwise.Tactic
public import Idealize.ShloMosaic.Lib.Tactic.CleanTypes

@[expose] public section

set_option maxRecDepth 16384

noncomputable section

namespace Cert.Proof.Ref

open Cert.ReferenceIdeal Cert.ReferenceIdeal.Gen Cert.ReferenceIdeal.Value
open Idealize.ShloMosaic Idealize.ShloMosaic.StableHlo Idealize.ShloMosaic.TcCoe

variable (V0 : Valuation τ sig (Elt Ideal))

/-- The exponent at place `j` is `15 - j`. -/
theorem exponent (j : Fin 16) : (res_main_v8 V0 : S16.Idx → BitVec 32) (ix1 j) = BitVec.ofNat 32 (15 - j.val) := by
  unfold res_main_v8
  clean_types
  pointwise
  revert j
  decide

/-- The power starts at one. -/
theorem pow0 (j : Fin 16) : (res_main_v14 V0 : S16.Idx → BitVec 32) (ix1 j) = 1#32 := by
  unfold res_main_v14
  clean_types
  pointwise
  rw [exponent]
  revert j
  decide

/-- The exponent halved once, -/
theorem exp1 (j : Fin 16) : (res_main_v22 V0 : S16.Idx → BitVec 32) (ix1 j) = BitVec.ofNat 32 ((15 - j.val) / 2) := by
  unfold res_main_v22
  clean_types
  pointwise
  rw [exponent]
  revert j
  decide

/-- twice, -/
theorem exp2 (j : Fin 16) : (res_main_v30 V0 : S16.Idx → BitVec 32) (ix1 j) = BitVec.ofNat 32 ((15 - j.val) / 4) := by
  unfold res_main_v30
  clean_types
  pointwise
  rw [exp1]
  revert j
  decide

/-- three times, -/
theorem exp3 (j : Fin 16) : (res_main_v38 V0 : S16.Idx → BitVec 32) (ix1 j) = BitVec.ofNat 32 ((15 - j.val) / 8) := by
  unfold res_main_v38
  clean_types
  pointwise
  rw [exp2]
  revert j
  decide

/-- four times -/
theorem exp4 (j : Fin 16) : (res_main_v46 V0 : S16.Idx → BitVec 32) (ix1 j) = 0#32 := by
  unfold res_main_v46
  clean_types
  pointwise
  rw [exp3]
  revert j
  decide

/-- and five times, when nothing is left. -/
theorem exp5 (j : Fin 16) : (res_main_v54 V0 : S16.Idx → BitVec 32) (ix1 j) = 0#32 := by
  unfold res_main_v54
  clean_types
  pointwise
  rw [exp4]
  decide

/-- The square of two, -/
theorem sq1 : (res_main_v20 V0 : S_.Idx → BitVec 32) ix0 = 4#32 := by
  unfold res_main_v20
  clean_types
  pointwise
  decide

/-- its square, -/
theorem sq2 : (res_main_v28 V0 : S_.Idx → BitVec 32) ix0 = 16#32 := by
  unfold res_main_v28
  clean_types
  pointwise
  rw [sq1]
  decide

/-- and the square of that. -/
theorem sq3 : (res_main_v36 V0 : S_.Idx → BitVec 32) ix0 = 256#32 := by
  unfold res_main_v36
  clean_types
  pointwise
  rw [sq2]
  decide

/-- The power by the exponent's last bit, -/
theorem pow1 (j : Fin 16) : (res_main_v19 V0 : S16.Idx → BitVec 32) (ix1 j) = BitVec.ofNat 32 (2 ^ ((15 - j.val) % 2)) := by
  unfold res_main_v19
  clean_types
  pointwise
  rw [exponent, pow0]
  revert j
  decide

/-- by its last two, -/
theorem pow2 (j : Fin 16) : (res_main_v27 V0 : S16.Idx → BitVec 32) (ix1 j) = BitVec.ofNat 32 (2 ^ ((15 - j.val) % 4)) := by
  unfold res_main_v27
  clean_types
  pointwise
  rw [exp1, pow1, sq1]
  revert j
  decide

/-- by its last three, -/
theorem pow3 (j : Fin 16) : (res_main_v35 V0 : S16.Idx → BitVec 32) (ix1 j) = BitVec.ofNat 32 (2 ^ ((15 - j.val) % 8)) := by
  unfold res_main_v35
  clean_types
  pointwise
  rw [exp2, pow2, sq2]
  revert j
  decide

/-- by all four, -/
theorem pow4 (j : Fin 16) : (res_main_v43 V0 : S16.Idx → BitVec 32) (ix1 j) = BitVec.ofNat 32 (2 ^ (15 - j.val)) := by
  unfold res_main_v43
  clean_types
  pointwise
  rw [exp3, pow3, sq3]
  revert j
  decide

/-- No bit of zero is set. -/
theorem select_false {α : Type} (p q : α) : Scalar.select (IntOp.cmpi CmpIPredicate.ne (IntOp.andi 0#32 1#32) 0#32) p q = q := rfl

/-- and a step more, which changes nothing. -/
theorem pow5 (j : Fin 16) : (res_main_v51 V0 : S16.Idx → BitVec 32) (ix1 j) = BitVec.ofNat 32 (2 ^ (15 - j.val)) := by
  unfold res_main_v51
  clean_types
  pointwise
  rw [exp4, select_false, pow4]

/-- A fold of wrapping additions is the sum of the numbers, as a word. -/
theorem fold_words {ι : Type} (s : Finset ι) (f : ι → ℕ) :
    Finset.fold IntOp.addi 0#32 (fun i => BitVec.ofNat 32 (f i)) s = BitVec.ofNat 32 (∑ i ∈ s, f i) := by
  classical
  induction s using Finset.induction_on with
  | empty => rfl
  | insert a s ha ih => rw [Finset.fold_insert ha, Finset.sum_insert ha, ih, BitVec.ofNat_add]; rfl

/-- A truth value, as a word, times a power of two. -/
theorem bit_word (p : Prop) (i1 i2 : Decidable p) (j : Fin 16) :
    IntOp.muli (BitVec.setWidth 32 (BitVec.ofBool (@decide p i1))) (BitVec.ofNat 32 (2 ^ (15 - j.val)))
      = BitVec.ofNat 32 ((@ite ℕ p i2 1 0) * 2 ^ (15 - j.val)) := by
  cases i1 with
  | isTrue h =>
    rw [if_pos h]
    show IntOp.muli (BitVec.setWidth 32 (BitVec.ofBool true)) _ = _
    revert j
    decide
  | isFalse h =>
    rw [if_neg h]
    show IntOp.muli (BitVec.setWidth 32 (BitVec.ofBool false)) _ = _
    revert j
    decide

/-- The reference's hash of group `k` of token `(b, s)`. -/
theorem hash_apply (b : Fin 2) (s : Fin 2048) (k : Fin 128) : (res_main_v66 V0 : S2x2048x128.Idx → BitVec 32) (ix3 b s k)
    = BitVec.ofNat 32 (Lsh.hashN fun j => (res_main_v0 V0 : S2x2048x128x16.Idx → EReal) (ix4 b s k j)) := by
  unfold res_main_v66
  clean_types
  pointwise
  unfold Lsh.hashN
  rw [← fold_words]
  congr 1
  funext j
  rw [exp5, select_false, pow5]
  exact bit_word _ _ _ j

end Cert.Proof.Ref
end
-- ==== Proof.RefValue.lean ====
/- The reference's result at an index: the table's chunk that the group's hash names, times the group's probability. -/
module

public import proofs.«01_k».proof.Proof.RefCode
public import proofs.«01_k».proof.Proof.Values
public import Idealize.ShloMosaic.Lib.Pointwise
public import Idealize.ShloMosaic.Lib.Pointwise.Tactic
public import Idealize.ShloMosaic.Lib.Tactic.CleanTypes

@[expose] public section

set_option maxRecDepth 16384

noncomputable section

namespace Cert.Proof.Ref

open Cert.ReferenceIdeal Cert.ReferenceIdeal.Gen Cert.ReferenceIdeal.Value
open Idealize.ShloMosaic Idealize.ShloMosaic.StableHlo Idealize.ShloMosaic.TcCoe

variable (V0 : Valuation τ sig (Elt Ideal))

/-- The reference's logarithm of the logistic function is the kernel's. -/
theorem logSig_eq (a : EReal) :
    -(max (-(2 * a)) 0 + Ideal.log (1 + Ideal.exp (-(max (-(2 * a)) (-(-(2 * a))))))) = Lsh.logSig a := by
  have e1 : max (-(2 * a)) (-(-(2 * a))) = max (2 * a) (-(2 * a)) := by rw [neg_neg, max_comm]
  rw [e1]
  unfold Lsh.logSig
  rw [zero_sub]
  have hp : max (-(2 * a)) 0 ≠ ⊥ := ne_of_gt (lt_of_lt_of_le (EReal.bot_lt_zero) (le_max_right _ _))
  have hx : (0 : EReal) ≤ Ideal.exp (-(max (2 * a) (-(2 * a)))) := by
    generalize -(max (2 * a) (-(2 * a))) = t
    induction t with
    | bot => exact le_refl _
    | top => exact le_top
    | coe r => exact EReal.coe_nonneg.2 (Real.exp_pos r).le
  have hq : Ideal.log (1 + Ideal.exp (-(max (2 * a) (-(2 * a))))) ≠ ⊥ := by
    have h1 : (1 : EReal) ≤ 1 + Ideal.exp (-(max (2 * a) (-(2 * a)))) := le_add_of_nonneg_right hx
    revert h1
    generalize 1 + Ideal.exp (-(max (2 * a) (-(2 * a)))) = t
    intro h1
    induction t with
    | bot => exact absurd h1 (by decide)
    | top => exact fun h => absurd h (by decide)
    | coe r =>
      have hr : (1 : ℝ) ≤ r := EReal.coe_le_coe_iff.1 h1
      show (if r ≤ 0 then (⊥ : EReal) else (Real.log r : EReal)) ≠ ⊥
      rw [if_neg (by linarith)]
      exact EReal.coe_ne_bot _
  rw [EReal.neg_add (.inl hp) (.inr hq)]
  congr 1
  have h := EReal.max_neg_neg (2 * a) 0
  rw [neg_zero] at h
  rw [h, neg_neg]

/-- The array whose negation the sum of a group takes. -/
def soft : S2x2048x128x16.Idx → EReal :=
  select (cmpf (F := Ideal) (φ := .f32) .une (res_main_call7_call0_v3 V0) (res_main_call7_call0_v3 V0)) (addf (F := Ideal) (φ := .f32) (res_main_call7_v0 V0) (broadcastInDim S2x2048x128x16 ![] bcast_S_S2x2048x128x16 (res_main_call7_call0_cst V0))) (addf (F := Ideal) (φ := .f32) (maximumf (F := Ideal) (φ := .f32) (res_main_call7_v0 V0) (broadcastInDim S2x2048x128x16 ![] bcast_S_S2x2048x128x16 (res_main_call7_call0_cst V0))) (Host.log1p (F := Ideal) (φ := .f32) (Host.exp (F := Ideal) (φ := .f32) (Host.negf (F := Ideal) (φ := .f32) (Host.absf (F := Ideal) (φ := .f32) (res_main_call7_call0_v3 V0))))))

/-- The activations, by token, group and place, -/
def act : S2x2048x128x16.Idx → EReal := res_main_v0 V0
/-- minus twice each, -/
def neg2 : S2x2048x128x16.Idx → EReal := res_main_call7_v0 V0
/-- and that less zero. -/
def neg2z : S2x2048x128x16.Idx → EReal := res_main_call7_call0_v3 V0

/-- Division by one changes nothing. -/
theorem div_one (x : EReal) : Ideal.div x 1 = x := by
  unfold Ideal.div
  rw [if_neg one_ne_zero, inv_one, mul_one]

/-- What `neg2` holds, -/
theorem neg2_apply (y : S2x2048x128x16.Idx) : neg2 V0 y = -(2 * act V0 y) := by
  have e : neg2 V0 y = -Ideal.div (Ideal.ofBits FTy.f32 1073741824#32 * act V0 y) 1 := by
    unfold neg2 act res_main_call7_v0
    clean_types
    pointwise
  rw [e, div_one]
  exact congrArg (fun t : EReal => -(t * act V0 y)) Lsh.two_f32

/-- and `neg2z`: the same. -/
theorem neg2z_apply (y : S2x2048x128x16.Idx) : neg2z V0 y = -(2 * act V0 y) := by
  have e : neg2z V0 y = neg2 V0 y := by
    unfold neg2z neg2 res_main_call7_call0_v3 res_main_call7_call0_cst
    clean_types
    pointwise
  rw [e, neg2_apply]

/-- Its negation is the kernel's term. -/
theorem soft_apply (y : S2x2048x128x16.Idx) : -(soft V0 y) = Lsh.logSig (act V0 y) := by
  have e : soft V0 y = if neg2z V0 y ≠ neg2z V0 y then neg2 V0 y
      else max (neg2 V0 y) 0 + Ideal.log1p (Ideal.exp (-(max (neg2z V0 y) (-(neg2z V0 y))))) := by
    unfold soft neg2z neg2 res_main_call7_call0_cst
    clean_types
    pointwise
    rfl
  rw [e, if_neg (fun h => h rfl), neg2_apply, neg2z_apply]
  exact logSig_eq _

/-- The reference's gather reads chunk `h` of table `k`. -/
theorem gather_apply {x : S128x65536x16.Idx → EReal} {idx : S2x2048x128x2.Idx → BitVec 32} (b : Fin 2) (s : Fin 2048) (k : Fin 128) (e : Fin 16)
    (h : Fin 65536) (h0 : idx (ix4 b s k 0) = BitVec.ofNat 32 k.val) (h1 : idx (ix4 b s k 1) = BitVec.ofNat 32 h.val) :
    Host.gather gather_S128x65536x16_S2x2048x128x2_S2x2048x128x16_3_01_n_n_01_3_1116 x idx (ix4 b s k e) = x (ix3 k h e) := by
  generalize hd : gather_S128x65536x16_S2x2048x128x2_S2x2048x128x16_3_01_n_n_01_3_1116 = D
  have hm : D.startIndexMap = [0, 1] := by rw [← hd]; rfl
  have hz : D.sliceSizes = ![1, 1, 16] := by rw [← hd]; rfl
  have hk : D.sKept = [2] := by rw [← hd]; rfl
  have hob : D.operandBatchingDims = [] := by rw [← hd]; rfl
  have ho : D.offsetDims = [3] := by rw [← hd]; rfl
  have word : ∀ (n : ℕ), n < 2 ^ 31 → (BitVec.ofNat 32 n).toInt.toNat = n := fun n hn => by
    rw [BitVec.toInt_eq_toNat_of_lt (by rw [BitVec.toNat_ofNat]; omega), BitVec.toNat_ofNat]; omega
  have hB : ∀ a, D.batchCoord (ix4 b s k e) a = 0 := fun a =>
    D.batchCoord_eq_zero _ _ (fun hh => by rw [hob] at hh; exact absurd hh List.not_mem_nil)
  have hs0 : ∀ q, q.val = 0 → D.siIdx (ix4 b s k e) q = ix4 b s k 0 := by
    subst hd
    intro q hq
    funext c
    refine Fin.ext ?_
    match c with
    | ⟨0, _⟩ => rfl
    | ⟨1, _⟩ => rfl
    | ⟨2, _⟩ => rfl
    | ⟨3, _⟩ => exact hq
  have hs1 : ∀ q, q.val = 1 → D.siIdx (ix4 b s k e) q = ix4 b s k 1 := by
    subst hd
    intro q hq
    funext c
    refine Fin.ext ?_
    match c with
    | ⟨0, _⟩ => rfl
    | ⟨1, _⟩ => rfl
    | ⟨2, _⟩ => rfl
    | ⟨3, _⟩ => exact hq
  unfold Host.gather
  congr 1
  funext a
  refine Fin.ext ?_
  show D.start (ix4 b s k e) idx a + D.batchCoord (ix4 b s k e) a + D.offCoord (ix4 b s k e) a = _
  rw [hB]
  have ha : a = 0 ∨ a = 1 ∨ a = 2 := by
    match a with
    | ⟨0, _⟩ => exact .inl rfl
    | ⟨1, _⟩ => exact .inr (.inl rfl)
    | ⟨2, _⟩ => exact .inr (.inr rfl)
  rcases ha with rfl | rfl | rfl
  · rw [D.offCoord_eq_zero _ _ (fun hh => by rw [hk] at hh; revert hh; decide)]
    unfold GatherDims.start
    rw [dif_pos (by rw [hm]; decide), hs0 _ (by show List.idxOf _ _ = _; rw [hm]; rfl), h0, word _ (by omega), hz]
    show min k.val 127 + 0 + 0 = k.val
    omega
  · rw [D.offCoord_eq_zero _ _ (fun hh => by rw [hk] at hh; revert hh; decide)]
    unfold GatherDims.start
    rw [dif_pos (by rw [hm]; decide), hs1 _ (by show List.idxOf _ _ = _; rw [hm]; rfl), h1, word _ (by omega), hz]
    show min h.val 65535 + 0 + 0 = h.val
    omega
  · have : D.start (ix4 b s k e) idx 2 = 0 := by
      unfold GatherDims.start
      rw [dif_neg (by rw [hm]; decide)]
    rw [this]
    subst hd
    show 0 + 0 + e.val = e.val
    omega

/-- The start indices of the gather: the group, and its hash. -/
def starts : S2x2048x128x2.Idx → BitVec 32 :=
  concatenate S2x2048x128x2 3 [⟨S2x2048x128x1, (broadcastInDim S2x2048x128x1 ![0, 1, 2] bcast_S2x2048x128_S2x2048x128x1_0_1_2 (broadcastInDim S2x2048x128 ![0, 1, 2] bcast_S1x1x128_S2x2048x128_0_1_2 (select (cmpi .slt (res_main_v68 V0) (broadcastInDim S1x1x128 ![] bcast_S_S1x1x128 (constantI S_ 32 0#32))) (addi (res_main_v68 V0) (broadcastInDim S1x1x128 ![] bcast_S_S1x1x128 (constantI S_ 32 128#32))) (res_main_v68 V0))))⟩, ⟨S2x2048x128x1, (broadcastInDim S2x2048x128x1 ![0, 1, 2] bcast_S2x2048x128_S2x2048x128x1_0_1_2 (select (cmpi .slt (res_main_v66 V0) (broadcastInDim S2x2048x128 ![] bcast_S_S2x2048x128 (constantI S_ 32 0#32))) (addi (res_main_v66 V0) (broadcastInDim S2x2048x128 ![] bcast_S_S2x2048x128 (constantI S_ 32 65536#32))) (res_main_v66 V0)))⟩] concatenates_S2x2048x128x1_S2x2048x128x1_S2x2048x128x2_d3

/-- The group's own number. -/
theorem group_apply (k : Fin 128) (i j : Fin 1) : (res_main_v68 V0 : S1x1x128.Idx → BitVec 32) (ix3 i j k) = BitVec.ofNat 32 k.val := by
  unfold res_main_v68
  clean_types
  pointwise

/-- A small word is not negative, so it is taken as it stands. -/
theorem plain (n : ℕ) (hn : n < 65536) (w : BitVec 32) :
    Scalar.select (IntOp.cmpi CmpIPredicate.slt (BitVec.ofNat 32 n) 0#32) w (BitVec.ofNat 32 n) = BitVec.ofNat 32 n := by
  have h : (BitVec.ofNat 32 n).slt 0#32 = false := by
    rw [BitVec.slt_eq_decide, BitVec.toInt_eq_toNat_of_lt (by rw [BitVec.toNat_ofNat]; omega)]
    exact decide_eq_false (fun h => absurd h (by simp; omega))
  show Scalar.select (BitVec.ofBool ((BitVec.ofNat 32 n).slt 0#32)) w _ = _
  rw [h]
  rfl

/-- The first start index is the group, -/
theorem starts0 (b : Fin 2) (s : Fin 2048) (k : Fin 128) : starts V0 (ix4 b s k 0) = BitVec.ofNat 32 k.val := by
  unfold starts
  clean_types
  pointwise
  rw [group_apply, plain _ (by omega)]

/-- the second its hash. -/
theorem starts1 (b : Fin 2) (s : Fin 2048) (k : Fin 128) : starts V0 (ix4 b s k 1) = BitVec.ofNat 32 (Lsh.hashN fun j => act V0 (ix4 b s k j)) := by
  unfold starts
  clean_types
  pointwise
  rw [hash_apply, plain _ (Lsh.hashN_lt _)]
  rfl

/-- The probabilities, by token and group. -/
def probs : S2x2048x128.Idx → EReal :=
  Host.exp (F := Ideal) (φ := .f32) (Host.reduceAdd (F := Ideal) (φ := .f32) (Host.negf (F := Ideal) (φ := .f32) (soft V0)) (constant S_ .f32 0x00000000#32) reducesTo_S2x2048x128x16_S2x2048x128_d3 h_S_)

/-- The reference's probability is the kernel's. -/
theorem probs_apply (b : Fin 2) (s : Fin 2048) (k : Fin 128) : probs V0 (ix3 b s k) = Lsh.probOf fun j => act V0 (ix4 b s k j) := by
  unfold probs Lsh.probOf
  pointwise
  simp only [soft_apply]

/-- The activations are the argument's. -/
theorem act_apply (b : Fin 2) (s : Fin 2048) (k : Fin 128) (j : Fin 16) :
    act V0 (ix4 b s k j) = (V0 (Proc.devRef .tc main_arg0) : S2x2048x2048.Idx → EReal) (ix3 b s (Lsh.own k j)) := by
  unfold act res_main_v0
  clean_types
  pointwise
  refine congrArg (fun i => (V0 (Proc.devRef .tc main_arg0) : S2x2048x2048.Idx → EReal) (ix3 b s i)) (Fin.ext ?_)
  show k.val * 16 + j.val = 16 * k.val + j.val
  omega

/-- The reference's product before its last reshape. -/
def product : S2x2048x128x16.Idx → EReal :=
  mulf (F := Ideal) (φ := .f32) (Host.gather gather_S128x65536x16_S2x2048x128x2_S2x2048x128x16_3_01_n_n_01_3_1116 (V0 (Proc.devRef .tc main_arg1)) (starts V0))
    (broadcastInDim S2x2048x128x16 ![0, 1, 2, 3] bcast_S2x2048x128x1_S2x2048x128x16_0_1_2_3 (broadcastInDim S2x2048x128x1 ![0, 1, 2] bcast_S2x2048x128_S2x2048x128x1_0_1_2 (probs V0)))

/-- The reference's product is the layer's result. -/
theorem product_eq (X : S2x2048x2048.Idx → EReal) (T : S128x65536x16.Idx → EReal)
    (hX : V0 (Proc.devRef .tc main_arg0) = X) (hT : V0 (Proc.devRef .tc main_arg1) = T) : product V0 = Lsh.layer X T := by
  funext y
  obtain ⟨b, s, k, e, rfl⟩ : ∃ (b : Fin 2) (s : Fin 2048) (k : Fin 128) (e : Fin 16), y = ix4 b s k e :=
    ⟨y 0, y 1, y 2, y 3, by funext a; match a with | ⟨0, _⟩ => rfl | ⟨1, _⟩ => rfl | ⟨2, _⟩ => rfl | ⟨3, _⟩ => rfl⟩
  have hn : (fun j => act V0 (ix4 b s k j)) = Lsh.nums X b s k := by
    funext j
    rw [act_apply, hX]
    rfl
  have hg : Host.gather gather_S128x65536x16_S2x2048x128x2_S2x2048x128x16_3_01_n_n_01_3_1116 T (starts V0) (ix4 b s k e)
      = T (ix3 k ⟨Lsh.hashN (Lsh.nums X b s k), Lsh.hashN_lt _⟩ e) :=
    gather_apply b s k e ⟨Lsh.hashN (Lsh.nums X b s k), Lsh.hashN_lt _⟩ (starts0 V0 b s k) ((starts1 V0 b s k).trans (by rw [hn]))
  have hp : (broadcastInDim S2x2048x128x16 ![0, 1, 2, 3] bcast_S2x2048x128x1_S2x2048x128x16_0_1_2_3 (broadcastInDim S2x2048x128x1 ![0, 1, 2] bcast_S2x2048x128_S2x2048x128x1_0_1_2 (probs V0))) (ix4 b s k e)
      = Lsh.probOf (Lsh.nums X b s k) := by
    refine Eq.trans ?_ ((probs_apply V0 b s k).trans (by rw [hn]))
    pointwise
  unfold product
  rw [hT]
  exact congrArg₂ (fun p q : EReal => p * q) hg hp

/-- The reference ends with the layer's result and its arguments unchanged. -/
theorem run_reference (m : (ℓ : Loc nD τ sig) → Buf (Elt Ideal) ℓ) (ρ : Dev nD → PrngReg)
    (X : Dev nD → S2x2048x2048.Idx → EReal) (T : Dev nD → S128x65536x16.Idx → EReal)
    (hX : ∀ c : Dev nD, m ((c.tc : Thread nD τ).loc main_arg0) = X c) (hT : ∀ c : Dev nD, m ((c.tc : Thread nD τ).loc main_arg1) = T c) :
    θ_run (defs (F := Ideal)) (onTc (τ := τ) (main (F := Ideal))) ⟨m, fun _ => 0, ρ⟩ fun r => ∀ c : Dev nD,
      r.2.mem ((c.tc : Thread nD τ).loc main_v94) = shapeCast S2x2048x2048 (Lsh.layer (X c) (T c)) Lsh.lays
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans ?_, (h c).2⟩) (Cert.ReferenceIdeal.Value.run (F := Ideal) m ρ)
  exact congrArg (fun A : S2x2048x128x16.Idx → EReal => shapeCast S2x2048x2048 A shapeCasts_S2x2048x128x16_S2x2048x2048)
    (product_eq (launchContents m c) (X c) (T c) (hX c) (hT c))

end Cert.Proof.Ref
end
-- ==== Proof.lean ====
module

public import proofs.«01_k».proof.Defs
public import proofs.«01_k».proof.Proof.Frames
public import proofs.«01_k».proof.Proof.RefValue

@[expose] public section

noncomputable section

namespace Cert.Proof

open Idealize.ShloMosaic Idealize.SL.Sem

/-- The kernel and the reference end with the same result, the layer's, from memories that agree on the activations and the
    tables. -/
theorem same_result : Cert.algebraic_KernelIdeal_ReferenceIdeal := fun m g m' g' _ h =>
  ⟨fun d => shapeCast Cert.KernelIdeal.S2x2048x2048 (Lsh.layer (Lsh.actV m d) (Lsh.lutV m d)) Lsh.lays,
    (θ_run _ _ _).mono (fun _ h' => h'.1) (Lsh.run_kernel m g),
    Ref.run_reference m' g' (fun d => Lsh.actV m d) (fun d => Lsh.lutV m d) (fun c => (h c).1) (fun c => (h c).2)⟩

/-- Every part of the certificate. -/
theorem claim : Cert.Claim :=
  ⟨Cert.KernelIdeal.Gen.facts, Cert.ReferenceIdeal.Gen.facts, Lsh.frame_kernel, Lsh.frame_reference, same_result⟩

end Cert.Proof

end
